-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_norms [hPre_finite_norms : Cert.Pre_finite_norms.Facts] (m : (ℓ : Loc Cert.KernelIdeal.nD Cert.KernelIdeal.τ Cert.KernelIdeal.sig) → Buf (Elt Ideal) ℓ) : Prop :=
  ∀ c : Dev Cert.KernelIdeal.nD,
    (Cert.Pre_finite_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_norms [hPre_finite_norms : Cert.Pre_finite_norms.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_norms [hKernelIdeal : Cert.KernelIdeal.Facts] [hPre_finite_norms : Cert.Pre_finite_norms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_norms m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_norms [hReferenceIdeal : Cert.ReferenceIdeal.Facts] [hPre_finite_norms : Cert.Pre_finite_norms.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_norms m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_norms [hKernelIdeal : Cert.KernelIdeal.Facts] [hReferenceIdeal : Cert.ReferenceIdeal.Facts] [hPre_finite_norms : Cert.Pre_finite_norms.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_norms m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_norms : Cert.Pre_finite_norms.Facts),
    quiescent_Kernel (hKernel := hKernel)
    ∧ quiescent_KernelIdeal (hKernelIdeal := hKernelIdeal)
    ∧ quiescent_KernelIdeal_pre_finite_norms (hKernelIdeal := hKernelIdeal) (hPre_finite_norms := hPre_finite_norms)
    ∧ quiescent_ReferenceIdeal (hReferenceIdeal := hReferenceIdeal)
    ∧ quiescent_ReferenceIdeal_pre_finite_norms (hReferenceIdeal := hReferenceIdeal) (hPre_finite_norms := hPre_finite_norms)
    ∧ preserves_Kernel_KernelIdeal
    ∧ algebraic_KernelIdeal_ReferenceIdeal_pre_finite_norms (hKernelIdeal := hKernelIdeal) (hReferenceIdeal := hReferenceIdeal) (hPre_finite_norms := hPre_finite_norms)
-- ==== Pre_finite_norms.lean ====
abbrev S1x2048x1024 : Shape := ⟨3, ![1, 2048, 1024]⟩
abbrev S1024x1024 : Shape := ⟨2, ![1024, 1024]⟩
abbrev S1024 : Shape := ⟨1, ![1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S1x2048x1024 .f32) (main_arg1 : FVec F S1024x1024 .f32) (main_arg2 : FVec F S1024x1024 .f32) (main_arg3 : FVec F S1024x1024 .f32) (main_arg4 : FVec F S1024x1024 .f32) (main_arg5 : FVec F S1024 .f32) (main_arg6 : FVec F S1024 .f32) (main_arg7 : FVec F S1024 .f32) (main_arg8 : FVec F S1024 .f32) (main_arg9 : IVec S_ 32) : IVec S1024 1 :=
  let main_v0 : FVec F S1024 .f32 := Host.absf main_arg5
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg6
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : IVec S1024 1 := andi main_v2 main_v5
  let main_v7 : FVec F S1024 .f32 := Host.absf main_arg7
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : IVec S1024 1 := andi main_v6 main_v9
  let main_v11 : FVec F S1024 .f32 := Host.absf main_arg8
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : IVec S1024 1 := andi main_v10 main_v13
  main_v14
-- ==== Kernel.lean ====
abbrev S1x2048x1024 : Shape := ⟨3, ![1, 2048, 1024]⟩
abbrev S1024x1024 : Shape := ⟨2, ![1024, 1024]⟩
abbrev S1024 : Shape := ⟨1, ![1024]⟩
abbrev S_ : Shape := ⟨0, ![]⟩
abbrev S2048x1024 : Shape := ⟨2, ![2048, 1024]⟩
abbrev S1x1024 : Shape := ⟨2, ![1, 1024]⟩
abbrev S2048x2048 : Shape := ⟨2, ![2048, 2048]⟩
abbrev S256x1024 : Shape := ⟨2, ![256, 1024]⟩
abbrev S256x2048 : Shape := ⟨2, ![256, 2048]⟩
abbrev S8x2048 : Shape := ⟨2, ![8, 2048]⟩
abbrev S256 : Shape := ⟨1, ![256]⟩
abbrev S256x1 : Shape := ⟨2, ![256, 1]⟩
abbrev S256x256 : Shape := ⟨2, ![256, 256]⟩
abbrev S256x512 : Shape := ⟨2, ![256, 512]⟩
abbrev S256x64 : Shape := ⟨2, ![256, 64]⟩
abbrev S512x64 : Shape := ⟨2, ![512, 64]⟩
abbrev S1x512 : Shape := ⟨2, ![1, 512]⟩
abbrev S256x1536 : Shape := ⟨2, ![256, 1536]⟩
abbrev S512 : Shape := ⟨1, ![512]⟩
abbrev S1024x64 : Shape := ⟨2, ![1024, 64]⟩
abbrev S1536x64 : Shape := ⟨2, ![1536, 64]⟩
abbrev S1x1536 : Shape := ⟨2, ![1, 1536]⟩
abbrev S1536 : Shape := ⟨1, ![1536]⟩
abbrev S2048x64 : Shape := ⟨2, ![2048, 64]⟩
abbrev S1x2048 : Shape := ⟨2, ![1, 2048]⟩
abbrev S2048 : Shape := ⟨1, ![2048]⟩
abbrev S1x2048x2048 : Shape := ⟨3, ![1, 2048, 2048]⟩

abbrev nBuf : Space → Nat
  | .hbm => 19
  | .vmem => 17
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S_, .i32⟩
  | .hbm, ⟨10, _⟩ => ⟨S2048x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S2048x1024, .f32⟩
  | .hbm, ⟨16, _⟩ => ⟨S2048x2048, .f32⟩
  | .hbm, ⟨17, _⟩ => ⟨S1x2048x1024, .f32⟩
  | .hbm, ⟨18, _⟩ => ⟨S1x2048x2048, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x2048, .f32⟩
  | .local _ .vmem, ⟨13, _⟩ => ⟨S256x2048, .f32⟩
  | .local _ .vmem, ⟨14, _⟩ => ⟨S2048x1024, .bf16⟩
  | .local _ .vmem, ⟨15, _⟩ => ⟨S2048x1024, .f32⟩
  | .local _ .vmem, ⟨16, _⟩ => ⟨S8x2048, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c256_i32 : BitVec 32 := 256#32
  let v63 : BitVec 32 := Scalar.muli arg0 c256_i32
  let v64 : Index := Scalar.indexCast v63
  let c0_25 : Index := 0#32
  ![v64.toNat, 0]
def k0_cond2 (i : grid0.Coords) : BitVec 1 :=
  let arg0 : BitVec 32 := BitVec.ofNat 32 (i 0).val
  let c0_i32_31 : BitVec 32 := 0#32
  let v80 : BitVec 1 := Scalar.cmpi .sge arg0 c0_i32_31
  let c2_i32 : BitVec 32 := 2#32
  let v81 : BitVec 1 := Scalar.cmpi .slt arg0 c2_i32
  let v82 : BitVec 1 := Scalar.andi v80 v81
  let v83 : BitVec 32 := Scalar.extui v82
  let c0_i32_32 : BitVec 32 := 0#32
  let v84 : BitVec 1 := Scalar.cmpi .ne v83 c0_i32_32
  v84

def k0_cond3 (i : grid0.Coords) : BitVec 1 :=
  let arg0 : BitVec 32 := BitVec.ofNat 32 (i 0).val
  let c2_i32_33 : BitVec 32 := 2#32
  let v85 : BitVec 1 := Scalar.cmpi .sge arg0 c2_i32_33
  let c4_i32 : BitVec 32 := 4#32
  let v86 : BitVec 1 := Scalar.cmpi .slt arg0 c4_i32
  let v87 : BitVec 1 := Scalar.andi v85 v86
  let v88 : BitVec 32 := Scalar.extui v87
  let c0_i32_34 : BitVec 32 := 0#32
  let v89 : BitVec 1 := Scalar.cmpi .ne v88 c0_i32_34
  v89

def k0_cond4 (i : grid0.Coords) : BitVec 1 :=
  let arg0 : BitVec 32 := BitVec.ofNat 32 (i 0).val
  let c4_i32_35 : BitVec 32 := 4#32
  let v90 : BitVec 1 := Scalar.cmpi .sge arg0 c4_i32_35
  let c6_i32 : BitVec 32 := 6#32
  let v91 : BitVec 1 := Scalar.cmpi .slt arg0 c6_i32
  let v92 : BitVec 1 := Scalar.andi v90 v91
  let v93 : BitVec 32 := Scalar.extui v92
  let c0_i32_36 : BitVec 32 := 0#32
  let v94 : BitVec 1 := Scalar.cmpi .ne v93 c0_i32_36
  v94

def k0_cond5 (i : grid0.Coords) : BitVec 1 :=
  let arg0 : BitVec 32 := BitVec.ofNat 32 (i 0).val
  let c6_i32_37 : BitVec 32 := 6#32
  let v95 : BitVec 1 := Scalar.cmpi .sge arg0 c6_i32_37
  let c8_i32 : BitVec 32 := 8#32
  let v96 : BitVec 1 := Scalar.cmpi .slt arg0 c8_i32
  let v97 : BitVec 1 := Scalar.andi v95 v96
  let v98 : BitVec 32 := Scalar.extui v97
  let c0_i32_38 : BitVec 32 := 0#32
  let v99 : BitVec 1 := Scalar.cmpi .ne v98 c0_i32_38
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x1024 : Shape := ⟨2, ![1024, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S1x16x2048x2048 : Shape := ⟨4, ![1, 16, 2048, 2048]⟩
abbrev S2048x2048 : Shape := ⟨2, ![2048, 2048]⟩
abbrev S1x1x2048x2048 : Shape := ⟨4, ![1, 1, 2048, 2048]⟩
abbrev S1x2048x2048 : Shape := ⟨3, ![1, 2048, 2048]⟩
abbrev S1 : Shape := ⟨1, ![1]⟩
abbrev S1x1x2048 : Shape := ⟨3, ![1, 1, 2048]⟩
abbrev S1x2047x2048 : Shape := ⟨3, ![1, 2047, 2048]⟩
abbrev S1x16x2048 : Shape := ⟨3, ![1, 16, 2048]⟩
abbrev S1x16x2048x1 : Shape := ⟨4, ![1, 16, 2048, 1]⟩
abbrev S16x2048x2048 : Shape := ⟨3, ![16, 2048, 2048]⟩
abbrev S16x2048x64 : Shape := ⟨3, ![16, 2048, 64]⟩

abbrev nBuf : Space → Nat
  | .hbm => 159
  | .vmem => 0
  | .smem => 0
  | _ => 0

abbrev hbmTy0_0 (i : Nat) : BufTy := match i % 128 with
  | 0 => ⟨S1x2048x1024, .f32⟩
  | 1 => ⟨S1024x1024, .f32⟩
  | 2 => ⟨S1024x1024, .f32⟩
  | 3 => ⟨S1024x1024, .f32⟩
  | 4 => ⟨S1024x1024, .f32⟩
  | 5 => ⟨S1024, .f32⟩
  | 6 => ⟨S1024, .f32⟩
  | 7 => ⟨S1024, .f32⟩
  | 8 => ⟨S1024, .f32⟩
  | 9 => ⟨S_, .i32⟩
  | 10 => ⟨S1024x1024, .f32⟩
  | 11 => ⟨S1x2048x1024, .f32⟩
  | 12 => ⟨S_, .f32⟩
  | 13 => ⟨S1x2048, .f32⟩
  | 14 => ⟨S1x2048x1, .f32⟩
  | 15 => ⟨S_, .f32⟩
  | 16 => ⟨S1x2048x1, .f32⟩
  | 17 => ⟨S1x2048x1, .f32⟩
  | 18 => ⟨S1x2048x1024, .f32⟩
  | 19 => ⟨S1x2048x1024, .f32⟩
  | 20 => ⟨S1x2048x1024, .f32⟩
  | 21 => ⟨S_, .f32⟩
  | 22 => ⟨S1x2048, .f32⟩
  | 23 => ⟨S1x2048x1, .f32⟩
  | 24 => ⟨S_, .f32⟩
  | 25 => ⟨S1x2048x1, .f32⟩
  | 26 => ⟨S1x2048x1, .f32⟩
  | 27 => ⟨S1x2048x1024, .f32⟩
  | 28 => ⟨S1x2048x1024, .f32⟩
  | 29 => ⟨S_, .f32⟩
  | 30 => ⟨S1x2048x1, .f32⟩
  | 31 => ⟨S1x2048x1, .f32⟩
  | 32 => ⟨S1x2048x1, .f32⟩
  | 33 => ⟨S1x2048x1024, .f32⟩
  | 34 => ⟨S1x2048x1024, .f32⟩
  | 35 => ⟨S1x1x1024, .f32⟩
  | 36 => ⟨S1x2048x1024, .f32⟩
  | 37 => ⟨S1x2048x1024, .f32⟩
  | 38 => ⟨S1x1x1024, .f32⟩
  | 39 => ⟨S1x2048x1024, .f32⟩
  | 40 => ⟨S1x2048x1024, .f32⟩
  | 41 => ⟨S1024x1024, .f32⟩
  | 42 => ⟨S1x2048x1024, .f32⟩
  | 43 => ⟨S_, .f32⟩
  | 44 => ⟨S1x2048, .f32⟩
  | 45 => ⟨S1x2048x1, .f32⟩
  | 46 => ⟨S_, .f32⟩
  | 47 => ⟨S1x2048x1, .f32⟩
  | 48 => ⟨S1x2048x1, .f32⟩
  | 49 => ⟨S1x2048x1024, .f32⟩
  | 50 => ⟨S1x2048x1024, .f32⟩
  | 51 => ⟨S1x2048x1024, .f32⟩
  | 52 => ⟨S_, .f32⟩
  | 53 => ⟨S1x2048, .f32⟩
  | 54 => ⟨S1x2048x1, .f32⟩
  | 55 => ⟨S_, .f32⟩
  | 56 => ⟨S1x2048x1, .f32⟩
  | 57 => ⟨S1x2048x1, .f32⟩
  | 58 => ⟨S1x2048x1024, .f32⟩
  | 59 => ⟨S1x2048x1024, .f32⟩
  | 60 => ⟨S_, .f32⟩
  | 61 => ⟨S1x2048x1, .f32⟩
  | 62 => ⟨S1x2048x1, .f32⟩
  | 63 => ⟨S1x2048x1, .f32⟩
  | 64 => ⟨S1x2048x1024, .f32⟩
  | 65 => ⟨S1x2048x1024, .f32⟩
  | 66 => ⟨S1x1x1024, .f32⟩
  | 67 => ⟨S1x2048x1024, .f32⟩
  | 68 => ⟨S1x2048x1024, .f32⟩
  | 69 => ⟨S1x1x1024, .f32⟩
  | 70 => ⟨S1x2048x1024, .f32⟩
  | 71 => ⟨S1x2048x1024, .f32⟩
  | 72 => ⟨S1024x1024, .f32⟩
  | 73 => ⟨S1x2048x1024, .f32⟩
  | 74 => ⟨S1x2048x16x64, .f32⟩
  | 75 => ⟨S1x16x2048x64, .f32⟩
  | 76 => ⟨S1x2048x16x64, .f32⟩
  | 77 => ⟨S1x16x2048x64, .f32⟩
  | 78 => ⟨S1x2048x16x64, .f32⟩
  | 79 => ⟨S1x16x2048x64, .f32⟩
  | 80 => ⟨S1x16x2048x2048, .f32⟩
  | 81 => ⟨S_, .f32⟩
  | 82 => ⟨S1x16x2048x2048, .f32⟩
  | 83 => ⟨S1x16x2048x2048, .f32⟩
  | 84 => ⟨S_, .i1⟩
  | 85 => ⟨S2048x2048, .i1⟩
  | 86 => ⟨S2048x2048, .i32⟩
  | 87 => ⟨S_, .i32⟩
  | 88 => ⟨S2048x2048, .i32⟩
  | 89 => ⟨S2048x2048, .i32⟩
  | 90 => ⟨S2048x2048, .i32⟩
  | 91 => ⟨S2048x2048, .i1⟩
  | 92 => ⟨S_, .i1⟩
  | 93 => ⟨S2048x2048, .i1⟩
  | 94 => ⟨S2048x2048, .i1⟩
  | 95 => ⟨S1x1x2048x2048, .i1⟩
  | 96 => ⟨S_, .f32⟩
  | 97 => ⟨S_, .f32⟩
  | 98 => ⟨S1x16x2048x2048, .i1⟩
  | 99 => ⟨S1x16x2048x2048, .f32⟩
  | 100 => ⟨S1x16x2048x2048, .f32⟩
  | 101 => ⟨S1x1x2048x2048, .f32⟩
  | 102 => ⟨S1x2048x2048, .f32⟩
  | 103 => ⟨S_, .f32⟩
  | 104 => ⟨S1x2048x2048, .f32⟩
  | 105 => ⟨S1x2048x2048, .f32⟩
  | 106 => ⟨S_, .i32⟩
  | 107 => ⟨S1, .i32⟩
  | 108 => ⟨S_, .f32⟩
  | 109 => ⟨S1x2048, .f32⟩
  | 110 => ⟨S1x2048x2048, .f32⟩
  | 111 => ⟨S2048x2048, .i32⟩
  | 112 => ⟨S2048x2048, .i32⟩
  | 113 => ⟨S_, .i32⟩
  | 114 => ⟨S2048x2048, .i32⟩
  | 115 => ⟨S2048x2048, .i32⟩
  | 116 => ⟨S2048x2048, .i1⟩
  | 117 => ⟨S2048x2048, .f32⟩
  | 118 => ⟨S_, .f32⟩
  | 119 => ⟨S2048x2048, .f32⟩
  | 120 => ⟨S2048x2048, .f32⟩
  | 121 => ⟨S1x2048x2048, .f32⟩
  | 122 => ⟨S1x2048x2048, .f32⟩
  | 123 => ⟨S1x1x2048, .f32⟩
  | 124 => ⟨S1x2047x2048, .f32⟩
  | 125 => ⟨S1x2048x2048, .f32⟩
  | 126 => ⟨S_, .i32⟩
  | 127 => ⟨S1, .i32⟩
  | _ => ⟨S1x2048x1024, .f32⟩

abbrev hbmTy0_1 (i : Nat) : BufTy := match i % 128 with
  | 0 => ⟨S_, .f32⟩
  | 1 => ⟨S1x2048, .f32⟩
  | 2 => ⟨S1x2048x2048, .f32⟩
  | 3 => ⟨S_, .f32⟩
  | 4 => ⟨S_, .f32⟩
  | 5 => ⟨S1x2048x2048, .f32⟩
  | 6 => ⟨S1x1x2048x2048, .f32⟩
  | 7 => ⟨S1x16x2048x2048, .f32⟩
  | 8 => ⟨S1x16x2048x2048, .f32⟩
  | 9 => ⟨S_, .f32⟩
  | 10 => ⟨S1x16x2048, .f32⟩
  | 11 => ⟨S_, .f32⟩
  | 12 => ⟨S1x16x2048, .f32⟩
  | 13 => ⟨S1x16x2048, .f32⟩
  | 14 => ⟨S1x16x2048x1, .f32⟩
  | 15 => ⟨S1x16x2048x2048, .f32⟩
  | 16 => ⟨S1x16x2048x2048, .f32⟩
  | 17 => ⟨S1x16x2048x2048, .f32⟩
  | 18 => ⟨S_, .f32⟩
  | 19 => ⟨S1x16x2048, .f32⟩
  | 20 => ⟨S1x16x2048x1, .f32⟩
  | 21 => ⟨S1x16x2048x2048, .f32⟩
  | 22 => ⟨S1x16x2048x2048, .f32⟩
  | 23 => ⟨S16x2048x2048, .f32⟩
  | 24 => ⟨S16x2048x64, .f32⟩
  | 25 => ⟨S16x2048x64, .f32⟩
  | 26 => ⟨S1x16x2048x64, .f32⟩
  | 27 => ⟨S1x2048x16x64, .f32⟩
  | 28 => ⟨S1x2048x1024, .f32⟩
  | 29 => ⟨S1024x1024, .f32⟩
  | 30 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_c : Ref sig .tc := ⟨.hbm, 84, rfl⟩
abbrev main_v63 : Ref sig .tc := ⟨.hbm, 85, rfl⟩
abbrev main_call0_v0 : Ref sig .tc := ⟨.hbm, 86, rfl⟩
abbrev main_call0_c : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_c_0 : Ref sig .tc := ⟨.hbm, 92, rfl⟩
abbrev main_call0_v5 : Ref sig .tc := ⟨.hbm, 93, rfl⟩
abbrev main_v64 : Ref sig .tc := ⟨.hbm, 94, rfl⟩
abbrev main_v65 : Ref sig .tc := ⟨.hbm, 95, rfl⟩
abbrev main_cst_10 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_call2_cst : Ref sig .tc := ⟨.hbm, 103, rfl⟩
abbrev main_call2_v0 : Ref sig .tc := ⟨.hbm, 104, rfl⟩
abbrev main_v69 : Ref sig .tc := ⟨.hbm, 105, rfl⟩
abbrev main_c_11 : Ref sig .tc := ⟨.hbm, 106, rfl⟩
abbrev main_v70 : Ref sig .tc := ⟨.hbm, 107, rfl⟩
abbrev main_cst_12 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_13 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_14 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call3_v0 : Ref sig .tc := ⟨.hbm, 123, rfl⟩
abbrev main_call3_v1 : Ref sig .tc := ⟨.hbm, 124, rfl⟩
abbrev main_v83 : Ref sig .tc := ⟨.hbm, 125, rfl⟩
abbrev main_c_15 : Ref sig .tc := ⟨.hbm, 126, rfl⟩
abbrev main_v84 : Ref sig .tc := ⟨.hbm, 127, rfl⟩
abbrev main_cst_16 : Ref sig .tc := ⟨.hbm, 128, rfl⟩
abbrev main_v85 : Ref sig .tc := ⟨.hbm, 129, rfl⟩
abbrev main_v86 : Ref sig .tc := ⟨.hbm, 130, rfl⟩
abbrev main_call4_call0_cst : Ref sig .tc := ⟨.hbm, 131, rfl⟩
abbrev main_call4_call0_v0 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_17 : Ref sig .tc := ⟨.hbm, 137, rfl⟩
abbrev main_v91 : Ref sig .tc := ⟨.hbm, 138, rfl⟩
abbrev main_cst_18 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_19 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩

abbrev nD : Nat := 1
abbrev τ : Topo := Topo.v7x

variable {F : FTy → Type} [FloatOps F]
-- ==== Proof.KernelFrame.lean ====
/- The frame of `Cert.Kernel`: the kernel runs to its end at every grid point, gives its inputs back as they were, and
   nothing is said of what it leaves in its outputs and its scratch buffers. -/
module

public import proofs.«01_k».proof.Proof.Gen.Kernel.Frame
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body clears the carried row: the first grid point. -/
abbrev firstCond (i : grid0.Coords) : Prop :=
  (Scalar.cmpi .ne (Scalar.extui (Scalar.cmpi .eq (BitVec.ofNat 32 (i 0).val) 0#32)) 0#32) = 1#1

/-- The ways in which the body's five conditions can hold: each pair of grid points takes one of the four widths, and the
    carried row is cleared at the first point, which is of the first width. -/
inductive Case (i : grid0.Coords) : Prop
  | start (h0 : firstCond i) (h1 : k0_cond2 i = 1#1) (h2 : ¬ k0_cond3 i = 1#1) (h3 : ¬ k0_cond4 i = 1#1) (h4 : ¬ k0_cond5 i = 1#1)
  | w512 (h0 : ¬ firstCond i) (h1 : k0_cond2 i = 1#1) (h2 : ¬ k0_cond3 i = 1#1) (h3 : ¬ k0_cond4 i = 1#1) (h4 : ¬ k0_cond5 i = 1#1)
  | w1024 (h0 : ¬ firstCond i) (h1 : ¬ k0_cond2 i = 1#1) (h2 : k0_cond3 i = 1#1) (h3 : ¬ k0_cond4 i = 1#1) (h4 : ¬ k0_cond5 i = 1#1)
  | w1536 (h0 : ¬ firstCond i) (h1 : ¬ k0_cond2 i = 1#1) (h2 : ¬ k0_cond3 i = 1#1) (h3 : k0_cond4 i = 1#1) (h4 : ¬ k0_cond5 i = 1#1)
  | w2048 (h0 : ¬ firstCond i) (h1 : ¬ k0_cond2 i = 1#1) (h2 : ¬ k0_cond3 i = 1#1) (h3 : ¬ k0_cond4 i = 1#1) (h4 : k0_cond5 i = 1#1)

/-- Every grid point is of one of the cases. -/
theorem case_of (t : Fin cfg0.N) : Case (grid0.coords t) := by
  have h : ∀ t : Fin grid0.N,
      (firstCond (grid0.coords t) ∧ k0_cond2 (grid0.coords t) = 1#1 ∧ ¬ k0_cond3 (grid0.coords t) = 1#1 ∧ ¬ k0_cond4 (grid0.coords t) = 1#1 ∧ ¬ k0_cond5 (grid0.coords t) = 1#1)
      ∨ (¬ firstCond (grid0.coords t) ∧ k0_cond2 (grid0.coords t) = 1#1 ∧ ¬ k0_cond3 (grid0.coords t) = 1#1 ∧ ¬ k0_cond4 (grid0.coords t) = 1#1 ∧ ¬ k0_cond5 (grid0.coords t) = 1#1)
      ∨ (¬ firstCond (grid0.coords t) ∧ ¬ k0_cond2 (grid0.coords t) = 1#1 ∧ k0_cond3 (grid0.coords t) = 1#1 ∧ ¬ k0_cond4 (grid0.coords t) = 1#1 ∧ ¬ k0_cond5 (grid0.coords t) = 1#1)
      ∨ (¬ firstCond (grid0.coords t) ∧ ¬ k0_cond2 (grid0.coords t) = 1#1 ∧ ¬ k0_cond3 (grid0.coords t) = 1#1 ∧ k0_cond4 (grid0.coords t) = 1#1 ∧ ¬ k0_cond5 (grid0.coords t) = 1#1)
      ∨ (¬ firstCond (grid0.coords t) ∧ ¬ k0_cond2 (grid0.coords t) = 1#1 ∧ ¬ k0_cond3 (grid0.coords t) = 1#1 ∧ ¬ k0_cond4 (grid0.coords t) = 1#1 ∧ k0_cond5 (grid0.coords t) = 1#1) := by
    decide +kernel
  rcases h t with ⟨a, b, d, e, f⟩ | ⟨a, b, d, e, f⟩ | ⟨a, b, d, e, f⟩ | ⟨a, b, d, e, f⟩ | ⟨a, b, d, e, f⟩
  · exact .start a b d e f
  · exact .w512 a b d e f
  · exact .w1024 a b d e f
  · exact .w1536 a b d e f
  · exact .w2048 a b d e f

set_option maxHeartbeats 2000000 in
/-- One grid point: from the inputs at their contents and every other buffer at anything, the body runs to its return, the
    inputs as they were and every other buffer at something. -/
theorem bodyRun (c : Dev nD) (i : grid0.Coords) (hi : Case i)
    (arg1 : Memref sig .tc .vmem S256x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x1024 .f32) (harg4 : arg4.IsWhole)
    (arg5 : Memref sig .tc .vmem S1024x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S256x1024 .f32) (harg10 : arg10.IsWhole)
    (arg11 : Memref sig .tc .vmem S256x2048 .f32) (harg11 : arg11.IsWhole)
    (arg12 : Memref sig .tc .vmem S2048x1024 .bf16) (harg12 : arg12.IsWhole)
    (arg13 : Memref sig .tc .vmem S2048x1024 .f32) (harg13 : arg13.IsWhole)
    (arg14 : Memref sig .tc .vmem S8x2048 .f32) (harg14 : arg14.IsWhole)
    (x0 : Vec F S256x1024 .f32) (x1 : Vec F S1024x1024 .f32) (x2 : Vec F S1024x1024 .f32) (x3 : Vec F S1024x1024 .f32) (x4 : Vec F S1024x1024 .f32) (x5 : Vec F S1x1024 .f32) (x6 : Vec F S1x1024 .f32) (x7 : Vec F S1x1024 .f32) (x8 : Vec F S1x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__attn_kernel_eq_skeleton]; unfold cc0__attn_kernel_skel
  simp only [k0_part29_eq_skeleton, k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  cases hi with
  | start hc0 hc1 hc2 hc3 hc4 =>
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl
  | w512 hc0 hc1 hc2 hc3 hc4 =>
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl
  | w1024 hc0 hc1 hc2 hc3 hc4 =>
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl
  | w1536 hc0 hc1 hc2 hc3 hc4 =>
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl
  | w2048 hc0 hc1 hc2 hc3 hc4 =>
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

end Cert.Kernel.Hand

end
-- ==== Proof.KernelLaunch.lean ====
/- The launch of `Cert.Kernel`: from the body's run at one grid point (`bodyRun`) to the frame of the whole program. -/
module

public import proofs.«01_k».proof.Proof.Gen.Kernel.Frame
public import proofs.«01_k».proof.Proof.KernelFrame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging buffer at point `t`. -/
abbrev stg0 (t : Fin cfg0.N) : Memref sig .tc .vmem S256x1024 .f32 := win0_0.stage (cfg0.slots t 0)
/-- Window 1's staging buffer at point `t`. -/
abbrev stg1 (t : Fin cfg0.N) : Memref sig .tc .vmem S1024x1024 .f32 := win0_1.stage (cfg0.slots t 1)
/-- Window 2's staging buffer at point `t`. -/
abbrev stg2 (t : Fin cfg0.N) : Memref sig .tc .vmem S1024x1024 .f32 := win0_2.stage (cfg0.slots t 2)
/-- Window 3's staging buffer at point `t`. -/
abbrev stg3 (t : Fin cfg0.N) : Memref sig .tc .vmem S1024x1024 .f32 := win0_3.stage (cfg0.slots t 3)
/-- Window 4's staging buffer at point `t`. -/
abbrev stg4 (t : Fin cfg0.N) : Memref sig .tc .vmem S1024x1024 .f32 := win0_4.stage (cfg0.slots t 4)
/-- Window 5's staging buffer at point `t`. -/
abbrev stg5 (t : Fin cfg0.N) : Memref sig .tc .vmem S1x1024 .f32 := win0_5.stage (cfg0.slots t 5)
/-- Window 6's staging buffer at point `t`. -/
abbrev stg6 (t : Fin cfg0.N) : Memref sig .tc .vmem S1x1024 .f32 := win0_6.stage (cfg0.slots t 6)
/-- Window 7's staging buffer at point `t`. -/
abbrev stg7 (t : Fin cfg0.N) : Memref sig .tc .vmem S1x1024 .f32 := win0_7.stage (cfg0.slots t 7)
/-- Window 8's staging buffer at point `t`. -/
abbrev stg8 (t : Fin cfg0.N) : Memref sig .tc .vmem S1x1024 .f32 := win0_8.stage (cfg0.slots t 8)
/-- Window 9's staging buffer at point `t`. -/
abbrev stg9 (t : Fin cfg0.N) : Memref sig .tc .vmem S256x1024 .f32 := win0_9.stage (cfg0.slots t 9)
/-- Window 10's staging buffer at point `t`. -/
abbrev stg10 (t : Fin cfg0.N) : Memref sig .tc .vmem S256x2048 .f32 := win0_10.stage (cfg0.slots t 10)

/-- The scratch buffers. -/
abbrev scr0 : Memref sig .tc .vmem S2048x1024 .bf16 := Memref.whole cc0_scratch0
@[inherit_doc scr0] abbrev scr1 : Memref sig .tc .vmem S2048x1024 .f32 := Memref.whole cc0_scratch1
@[inherit_doc scr0] abbrev scr2 : Memref sig .tc .vmem S8x2048 .f32 := Memref.whole cc0_scratch2

/-- The scratch buffers at anything, with the generator register at something: what is kept from point to point. -/
theorem rest_eq (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d)) ∗ (∃ r, prngReg c r)) := by
  unfold Pipeline.ΦA; rw [scopedRest0_eq]; simp only [scr0, scr1, scr2, owns_whole]; try rfl

/-- The two output windows, of which nothing is named. -/
def forgotten : Fin 11 → Bool := fun w => w.val == 9 || w.val == 10

/-- The proof data: inputs at their blocks, outputs unnamed, scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem dats_A (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  before0_0_of m (dats m 0 c) (dats_A m c 0) (fun _ => by dsimp only [dats]) t d
theorem before1 (c : Dev nD) (t : Fin cfg0.N) (d) : (dats m 0 c).before 1 t d = iblk m c 1 t :=
  before0_1_of m (dats m 0 c) (dats_A m c 1) (fun _ => by dsimp only [dats]) t d
theorem before2 (c : Dev nD) (t : Fin cfg0.N) (d) : (dats m 0 c).before 2 t d = iblk m c 2 t :=
  before0_2_of m (dats m 0 c) (dats_A m c 2) (fun _ => by dsimp only [dats]) t d
theorem before3 (c : Dev nD) (t : Fin cfg0.N) (d) : (dats m 0 c).before 3 t d = iblk m c 3 t :=
  before0_3_of m (dats m 0 c) (dats_A m c 3) (fun _ => by dsimp only [dats]) t d
theorem before4 (c : Dev nD) (t : Fin cfg0.N) (d) : (dats m 0 c).before 4 t d = iblk m c 4 t :=
  before0_4_of m (dats m 0 c) (dats_A m c 4) (fun _ => by dsimp only [dats]) t d
theorem before5 (c : Dev nD) (t : Fin cfg0.N) (d) : (dats m 0 c).before 5 t d = iblk m c 5 t :=
  before0_5_of m (dats m 0 c) (dats_A m c 5) (fun _ => by dsimp only [dats]) t d
theorem before6 (c : Dev nD) (t : Fin cfg0.N) (d) : (dats m 0 c).before 6 t d = iblk m c 6 t :=
  before0_6_of m (dats m 0 c) (dats_A m c 6) (fun _ => by dsimp only [dats]) t d
theorem before7 (c : Dev nD) (t : Fin cfg0.N) (d) : (dats m 0 c).before 7 t d = iblk m c 7 t :=
  before0_7_of m (dats m 0 c) (dats_A m c 7) (fun _ => by dsimp only [dats]) t d
theorem before8 (c : Dev nD) (t : Fin cfg0.N) (d) : (dats m 0 c).before 8 t d = iblk m c 8 t :=
  before0_8_of m (dats m 0 c) (dats_A m c 8) (fun _ => by dsimp only [dats]) t d

theorem leaves0 (c : Dev nD) (t : Fin cfg0.N) : (dats m 0 c).leavesExact 0 t = owns (c : Thread nD τ) (stg0 t) fullShare (iblk m c 0 t) := by
  unfold Dat.leavesExact; rw [show cfg0.idle 0 (grid0.coords t) = false from rfl]; dsimp only [dats]
theorem leaves1 (c : Dev nD) (t : Fin cfg0.N) : (dats m 0 c).leavesExact 1 t = owns (c : Thread nD τ) (stg1 t) fullShare (iblk m c 1 t) := by
  unfold Dat.leavesExact; rw [show cfg0.idle 1 (grid0.coords t) = false from rfl]; dsimp only [dats]
theorem leaves2 (c : Dev nD) (t : Fin cfg0.N) : (dats m 0 c).leavesExact 2 t = owns (c : Thread nD τ) (stg2 t) fullShare (iblk m c 2 t) := by
  unfold Dat.leavesExact; rw [show cfg0.idle 2 (grid0.coords t) = false from rfl]; dsimp only [dats]
theorem leaves3 (c : Dev nD) (t : Fin cfg0.N) : (dats m 0 c).leavesExact 3 t = owns (c : Thread nD τ) (stg3 t) fullShare (iblk m c 3 t) := by
  unfold Dat.leavesExact; rw [show cfg0.idle 3 (grid0.coords t) = false from rfl]; dsimp only [dats]
theorem leaves4 (c : Dev nD) (t : Fin cfg0.N) : (dats m 0 c).leavesExact 4 t = owns (c : Thread nD τ) (stg4 t) fullShare (iblk m c 4 t) := by
  unfold Dat.leavesExact; rw [show cfg0.idle 4 (grid0.coords t) = false from rfl]; dsimp only [dats]
theorem leaves5 (c : Dev nD) (t : Fin cfg0.N) : (dats m 0 c).leavesExact 5 t = owns (c : Thread nD τ) (stg5 t) fullShare (iblk m c 5 t) := by
  unfold Dat.leavesExact; rw [show cfg0.idle 5 (grid0.coords t) = false from rfl]; dsimp only [dats]
theorem leaves6 (c : Dev nD) (t : Fin cfg0.N) : (dats m 0 c).leavesExact 6 t = owns (c : Thread nD τ) (stg6 t) fullShare (iblk m c 6 t) := by
  unfold Dat.leavesExact; rw [show cfg0.idle 6 (grid0.coords t) = false from rfl]; dsimp only [dats]
theorem leaves7 (c : Dev nD) (t : Fin cfg0.N) : (dats m 0 c).leavesExact 7 t = owns (c : Thread nD τ) (stg7 t) fullShare (iblk m c 7 t) := by
  unfold Dat.leavesExact; rw [show cfg0.idle 7 (grid0.coords t) = false from rfl]; dsimp only [dats]
theorem leaves8 (c : Dev nD) (t : Fin cfg0.N) : (dats m 0 c).leavesExact 8 t = owns (c : Thread nD τ) (stg8 t) fullShare (iblk m c 8 t) := by
  unfold Dat.leavesExact; rw [show cfg0.idle 8 (grid0.coords t) = false from rfl]; dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare d) ∗ (∃ d, owns (c : Thread nD τ) (stg10 t) fullShare d))

/-- What the body gives back at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (stg9 t) fullShare d) ∗ (∃ d, owns (c : Thread nD τ) (stg10 t) fullShare d))

/-- The body at any point. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, leaves0, leaves1, leaves2, leaves3, leaves4, leaves5, leaves6, leaves7, leaves8]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, rest_eq]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
  iapply (bodyRun c (grid0.coords t) (case_of t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  iintro ⟨H0, H1, H2, H3, H4, H5, H6, H7, H8, H9, H10, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row_eq (t : Fin cfg0.N) : defs₀ (F := F) .tc cfg0.body (cfg0.bodyArgs t (cfg0.slots t)) = bodyAt0 t := by
  unfold defs₀; rw [Defs.onTc_tc]

/-- The body's obligation at every point. -/
theorem body_ok (c : Dev nD) : BodyObligation (dats (F := F) m 0 c) (defs₀ (F := F)) Variants.none () Set.univ forgotten := fun t => by
  rw [bigSep_W0, bigSep_W0, row_eq]
  exact triple_restated (body_sound m c t) rfl .rfl fun _ => .rfl

/-- The two results, written by the lines after the region. -/
def resultRefs : Finset (Ref sig .tc) := {main_v6, main_v7}

theorem results_only : ∀ ops ∈ ([hostOps1] : List (List (HloOp τ sig (Elt F)))), ∀ op ∈ ops,
    ∀ b : Ref sig .tc, Proc.devRef .tc b ∈ op.writes → b ∈ resultRefs := by
  intro ops hops op hop b hb
  simp only [List.mem_cons, List.mem_nil_iff, or_false] at hops
  subst hops
  simp only [hostOps1, List.mem_cons, List.mem_nil_iff, or_false] at hop
  rcases hop with rfl | rfl
  all_goals
    simp only [StableHlo.reshape_writes, Finset.mem_singleton] at hb
    cases Proc.devRef_injective _ hb; decide

set_option backward.isDefEq.respectTransparency.types false in
set_option maxHeartbeats 800000 in
/-- The whole program's run: the inputs' arrays and every buffer but the results as they were, the counters at zero. -/
theorem launch_run : θ_run defs (onTc (τ := τ) (main (F := F))) (s₀ m ρ)
    (fun r => (Pipeline.RDat.FramePostR (cfgs 0) (fun c => (dats m 0 c).toRForget forgotten) resultRefs (V m)) r ∧ r.2.sem = fun _ => 0) :=
  Pipeline.θ_run_frame_around_T_track_forget (Q' := _) cfgs (dats m) (0 : Fin 1) launch0 defs₀ Variants.none forgotten resultRefs m ρ main
    (hbody := fun c => (body_ok m c).loose) (hshare := fun c => (dats m 0 c).share_full fun _ => rfl)
    (howed := fun _ _ => rfl) (V₀ := V0 m) (opss := [hostOps1]) (hsub := sfx_sub) (hfresh := sfx_fresh) (hkeep := sfx_keeps) (hT := results_only)
    (hmain := hmain m Variants.none) (hA := dats_A m) (hin := fun c => .rfl) (hout := fun c => .rfl)

/-- The frame: every argument array ends as it began, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      (Pipeline.RDat.FramePostR.arr_in h.1 c 1 rfl).trans ((dats_A m c 1).trans (V_main_arg1 m c)),
      (Pipeline.RDat.FramePostR.arr_in h.1 c 2 rfl).trans ((dats_A m c 2).trans (V_main_arg2 m c)),
      (Pipeline.RDat.FramePostR.arr_in h.1 c 3 rfl).trans ((dats_A m c 3).trans (V_main_arg3 m c)),
      (Pipeline.RDat.FramePostR.arr_in h.1 c 4 rfl).trans ((dats_A m c 4).trans (V_main_arg4 m c)),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c),
      ((h.1 c).2 main_arg9 (Finset.mem_sdiff.mpr ⟨Pipeline.mem_restRefs_of main_arg9 (by decide) (by decide), by decide⟩)).trans (V_main_arg9 m c)⟩, h.2⟩) (launch_run m ρ)

end Cert.Kernel.Hand

end
-- ==== Proof.Math.lean ====
/- The mathematics of the attention layer, over arrays read as functions of whole numbers with values in the extended reals:
   what each quantity is, which of them are real numbers when the four norm vectors are, and the two identities the proof
   rests on (a running sum cut into blocks of rows, and the softmax with and without its greatest entry taken off). -/
module

public import Idealize.ShloMosaic.Lib.Pointwise

@[expose] public section

noncomputable section

namespace Cert.Attn

open Idealize.ShloMosaic
open Finset

/-! ## The quantities -/

/-- A row of the input against a row of a weight. -/
def proj (X W : ℕ → ℕ → EReal) (i c : ℕ) : EReal := ∑ d : Fin 1024, X i d * W c d

/-- The mean of a row. -/
def mean (y : ℕ → EReal) : EReal := Ideal.div (∑ c : Fin 1024, y c) (Ideal.ofBits FTy.f32 0x44800000#32)

/-- The variance of a row. -/
def variance (y : ℕ → EReal) : EReal :=
  Ideal.div (∑ c : Fin 1024, (y c - mean y) * (y c - mean y)) (Ideal.ofBits FTy.f32 0x44800000#32)

/-- The layer norm of a row. -/
def lnorm (y : ℕ → EReal) (g b : ℕ → EReal) (c : ℕ) : EReal :=
  Ideal.div (y c - mean y) (Ideal.sqrt (variance y + Ideal.ofBits FTy.f32 0x3727C5AC#32)) * g c + b c

/-- Queries and keys: the norm of a projection. -/
def normed (X W : ℕ → ℕ → EReal) (g b : ℕ → EReal) (i c : ℕ) : EReal := lnorm (proj X W i) g b c

/-- The scaled product of a query and a key over the 64 columns from `o` on. -/
def logit (Q K : ℕ → ℕ → EReal) (o i j : ℕ) : EReal :=
  (∑ d : Fin 64, Q i (o + d) * K j (o + d)) * Ideal.ofBits FTy.f32 0x3E000000#32

/-- What row `i` selects of column `j`. -/
def sel (Q K : ℕ → ℕ → EReal) (i j : ℕ) : EReal := if 1 ≤ j ∧ j < i then max (logit Q K 0 i j) 0 else 0

/-- What the rows before `i` have selected of column `j`. -/
def mask (Q K : ℕ → ℕ → EReal) (i j : ℕ) : EReal := ∑ k ∈ range i, sel Q K k j

/-- What is added to the logits: minus the accumulated selection up to the diagonal, minus infinity above it. -/
def base (Q K : ℕ → ℕ → EReal) (i j : ℕ) : EReal := if j ≤ i then 0 - mask Q K i j else ⊥

/-- The weight of column `j` in row `i` before the row is divided by its sum. -/
def weight (Q K : ℕ → ℕ → EReal) (o i j : ℕ) : EReal := Ideal.exp (logit Q K o i j + base Q K i j)

/-- The attention's output: the head of column `c` is `c / 64`. -/
def attn (Q K V : ℕ → ℕ → EReal) (i c : ℕ) : EReal :=
  Ideal.div (∑ j : Fin 2048, weight Q K (64 * (c / 64)) i j * V j c) (∑ j : Fin 2048, weight Q K (64 * (c / 64)) i j)

/-- The attention's output against a row of the last weight. -/
def out (Q K V Wo : ℕ → ℕ → EReal) (i c : ℕ) : EReal := ∑ e : Fin 1024, attn Q K V i e * Wo c e

/-! ## Real values -/

/-- The value is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} : IsReal x → IsReal y → IsReal (x + y) := by
  rintro ⟨a, rfl⟩ ⟨b, rfl⟩; exact ⟨a + b, (EReal.coe_add _ _).symm⟩
theorem IsReal.sub {x y : EReal} : IsReal x → IsReal y → IsReal (x - y) := by
  rintro ⟨a, rfl⟩ ⟨b, rfl⟩; exact ⟨a - b, (EReal.coe_sub _ _).symm⟩
theorem IsReal.mul {x y : EReal} : IsReal x → IsReal y → IsReal (x * y) := by
  rintro ⟨a, rfl⟩ ⟨b, rfl⟩; exact ⟨a * b, (EReal.coe_mul _ _).symm⟩
theorem IsReal.max {x y : EReal} : IsReal x → IsReal y → IsReal (max x y) := by
  intro hx hy; rcases max_choice x y with h | h <;> rw [h] <;> assumption
theorem IsReal.sum {ι : Type*} (s : Finset ι) (f : ι → EReal) (h : ∀ i ∈ s, IsReal (f i)) : IsReal (∑ i ∈ s, f i) := by
  classical
  induction s using Finset.induction_on with
  | empty => exact .zero
  | insert a s ha ih =>
    rw [sum_insert ha]
    exact (h a (mem_insert_self a s)).add (ih fun i hi => h i (mem_insert_of_mem hi))
theorem isReal_iff {x : EReal} : IsReal x ↔ x ≠ ⊥ ∧ x ≠ ⊤ := by
  constructor
  · rintro ⟨r, rfl⟩; exact ⟨EReal.coe_ne_bot r, EReal.coe_ne_top r⟩
  · rintro ⟨h1, h2⟩; exact ⟨x.toReal, (EReal.coe_toReal h2 h1).symm⟩

theorem ofBits_1024 : Ideal.ofBits FTy.f32 0x44800000#32 = ((1024 : ℝ) : EReal) := by
  simp [Ideal.ofBits, Ideal.ieee, -EReal.coe_mul]; norm_num
theorem ofBits_8 : Ideal.ofBits FTy.f32 0x41000000#32 = ((8 : ℝ) : EReal) := by
  simp [Ideal.ofBits, Ideal.ieee, -EReal.coe_mul]; norm_num
theorem ofBits_eighth : Ideal.ofBits FTy.f32 0x3E000000#32 = (((1 : ℝ) / 8 : ℝ) : EReal) := by
  simp [Ideal.ofBits, Ideal.ieee, -EReal.coe_mul]; norm_num
theorem ofBits_eps : ∃ e : ℝ, 0 < e ∧ Ideal.ofBits FTy.f32 0x3727C5AC#32 = (e : EReal) := by
  refine ⟨_, ?_, by simp [Ideal.ofBits, Ideal.ieee, -EReal.coe_mul]; rfl⟩
  positivity
theorem ofBits_neg_inf : Ideal.ofBits FTy.f32 0xFF800000#32 = ⊥ := by
  simp [Ideal.ofBits, Ideal.ieee]

/-- Dividing by 8 is multiplying by one eighth. -/
theorem div_8 (x : EReal) : Ideal.div x (Ideal.ofBits FTy.f32 0x41000000#32) = x * Ideal.ofBits FTy.f32 0x3E000000#32 := by
  rw [ofBits_8, ofBits_eighth, Ideal.div_coe (by norm_num)]

theorem sum_nonneg_ereal {ι : Type*} (s : Finset ι) (f : ι → EReal) (h : ∀ i ∈ s, 0 ≤ f i) : 0 ≤ ∑ i ∈ s, f i :=
  Finset.sum_nonneg h

theorem sq_nonneg_ereal (x : EReal) : 0 ≤ x * x := by
  rcases le_total 0 x with h | h
  · exact EReal.mul_nonneg h h
  · rw [← neg_mul_neg]; exact EReal.mul_nonneg (EReal.neg_nonneg.mpr h) (EReal.neg_nonneg.mpr h)

/-- The layer norm is real wherever the norm vectors are, whatever the row. -/
theorem lnorm_real (y g b : ℕ → EReal) (c : Fin 1024) (hg : IsReal (g c)) (hb : IsReal (b c)) : IsReal (lnorm y g b c) := by
  unfold lnorm
  refine IsReal.add (IsReal.mul ?_ hg) hb
  obtain ⟨e, he, hε⟩ := ofBits_eps
  rw [hε]
  have hv0 : 0 ≤ variance y := by
    unfold variance
    rw [ofBits_1024, Ideal.div_coe (by norm_num)]
    exact EReal.mul_nonneg (sum_nonneg_ereal _ _ fun i _ => sq_nonneg_ereal _) (EReal.coe_nonneg.mpr (by norm_num))
  by_cases hv : variance y = ⊤
  · rw [hv, EReal.top_add_coe, Ideal.sqrt_top]
    refine ⟨0, ?_⟩
    rw [Ideal.div, if_neg EReal.top_ne_zero, EReal.inv_top, mul_zero]; rfl
  · obtain ⟨v, hv'⟩ : IsReal (variance y) := isReal_iff.mpr ⟨fun h => by rw [h] at hv0; exact absurd hv0 (by simp), hv⟩
    have hv0' : 0 ≤ v := by rw [hv'] at hv0; exact EReal.coe_nonneg.mp hv0
    rw [hv', ← EReal.coe_add, Ideal.sqrt_coe, if_neg (by linarith),
      Ideal.div_coe (Real.sqrt_pos.mpr (by linarith)).ne']
    refine IsReal.mul ?_ (.coe _)
    by_contra hd
    have hdd : (y c - mean y) * (y c - mean y) = ⊤ := by
      rw [isReal_iff, not_and_or, not_not, not_not] at hd
      rcases hd with h | h <;> rw [h] <;> simp
    have hS : ∑ k : Fin 1024, (y k - mean y) * (y k - mean y) = ⊤ := by
      rw [← Finset.add_sum_erase _ _ (mem_univ c), hdd]
      refine EReal.top_add_of_ne_bot fun h => ?_
      have := sum_nonneg_ereal (univ.erase c) (fun k : Fin 1024 => (y k - mean y) * (y k - mean y)) fun i _ => sq_nonneg_ereal _
      rw [h] at this
      exact absurd this (by simp)
    refine hv ?_
    unfold variance
    rw [hS, ofBits_1024, Ideal.div_coe (by norm_num), EReal.top_mul_coe_of_pos (by norm_num)]

theorem logit_real {Q K : ℕ → ℕ → EReal} {o i j : ℕ} (hQ : ∀ d : Fin 64, IsReal (Q i (o + d))) (hK : ∀ d : Fin 64, IsReal (K j (o + d))) :
    IsReal (logit Q K o i j) := by
  unfold logit
  rw [ofBits_eighth]
  exact (IsReal.sum _ _ fun d _ => (hQ d).mul (hK d)).mul (.coe _)

theorem sel_real {Q K : ℕ → ℕ → EReal} {i j : ℕ} (h : IsReal (logit Q K 0 i j)) : IsReal (sel Q K i j) := by
  unfold sel; split
  · exact h.max .zero
  · exact .zero

theorem mask_real {Q K : ℕ → ℕ → EReal} {i j : ℕ} (h : ∀ k < i, IsReal (logit Q K 0 k j)) : IsReal (mask Q K i j) :=
  IsReal.sum _ _ fun k hk => sel_real (h k (mem_range.mp hk))

/-! ## The accumulated selection by blocks of rows -/

/-- Over the rows of a block: what was selected before the block, and what the block's rows before this one select. -/
theorem mask_block (Q K : ℕ → ℕ → EReal) (n j : ℕ) (r : Fin 256) :
    mask Q K (n + r) j = mask Q K n j + ∑ x : Fin 256, if x.val < r.val then sel Q K (n + x) j else 0 := by
  unfold mask
  rw [sum_range_add]
  congr 1
  rw [Fin.sum_univ_eq_sum_range (fun x => if x < r.val then sel Q K (n + x) j else 0) 256, ← sum_filter]
  refine sum_congr ?_ fun _ _ => rfl
  ext x
  simp only [mem_range, mem_filter]
  have := r.isLt
  omega

/-- A whole block more. -/
theorem mask_next (Q K : ℕ → ℕ → EReal) (n j : ℕ) :
    mask Q K (n + 256) j = mask Q K n j + ∑ x : Fin 256, sel Q K (n + x) j := by
  unfold mask
  rw [sum_range_add, Fin.sum_univ_eq_sum_range (fun x => sel Q K (n + x) j) 256]

/-- No row at or above the diagonal selects anything. -/
theorem mask_above (Q K : ℕ → ℕ → EReal) (i j : ℕ) (h : i ≤ j + 1) : mask Q K i j = 0 := by
  refine sum_eq_zero fun k hk => ?_
  rw [mem_range] at hk
  exact if_neg fun h' => by omega

theorem mask_zero (Q K : ℕ → ℕ → EReal) (j : ℕ) : mask Q K 0 j = 0 := rfl

/-! ## Columns above the diagonal -/

theorem weight_above (Q K : ℕ → ℕ → EReal) (o i j : ℕ) (h : i < j) : weight Q K o i j = 0 := by
  unfold weight base
  rw [if_neg (by omega), EReal.add_bot, Ideal.exp_bot]

/-- A sum over all columns, of terms that vanish above the diagonal, is the sum over the first `w` columns. -/
theorem sum_cut {w : ℕ} (i : ℕ) (f : ℕ → EReal) (hf : ∀ j, i < j → f j = 0) (hi : i < w) (hw : w ≤ 2048) :
    ∑ j : Fin 2048, f j = ∑ j : Fin w, f j := by
  rw [Fin.sum_univ_eq_sum_range f 2048, Fin.sum_univ_eq_sum_range f w]
  refine (sum_subset (range_subset_range.mpr hw) fun x _ hx => hf x ?_).symm
  rw [mem_range] at hx
  omega

/-- The attention's output from any weights and values that are right up to the diagonal, the weights vanishing above it. -/
theorem attn_eq {w : ℕ} {Q K V : ℕ → ℕ → EReal} {i c : ℕ} (hi : i < w) (hw : w ≤ 2048) (p v : Fin w → EReal)
    (hp : ∀ j : Fin w, p j = weight Q K (64 * (c / 64)) i j) (hv : ∀ j : Fin w, j.val ≤ i → v j = V j c) :
    Ideal.div (∑ j, p j * v j) (∑ j, p j) = attn Q K V i c := by
  unfold attn
  rw [sum_cut i (fun j => weight Q K (64 * (c / 64)) i j * V j c) (fun j h => by simp only [weight_above Q K _ i j h, zero_mul]) hi hw,
    sum_cut i (fun j => weight Q K (64 * (c / 64)) i j) (fun j h => weight_above Q K _ i j h) hi hw]
  refine congrArg₂ _ (sum_congr rfl fun j _ => ?_) (sum_congr rfl fun j _ => hp j)
  by_cases h : j.val ≤ i
  · rw [hp, hv j h]
  · rw [hp, weight_above Q K _ i j (by omega), zero_mul, zero_mul]

/-! ## The softmax -/

theorem mul_sum_of_nonneg {ι : Type*} (s : Finset ι) (f : ι → EReal) (a : ℝ) (ha : 0 ≤ a) :
    ∑ i ∈ s, f i * (a : EReal) = (∑ i ∈ s, f i) * (a : EReal) := by
  classical
  induction s using Finset.induction_on with
  | empty => simp
  | insert b s hb ih =>
    rw [sum_insert hb, sum_insert hb, ih, EReal.right_distrib_of_nonneg_of_ne_top (EReal.coe_nonneg.mpr ha) (EReal.coe_ne_top a)]

/-- The softmax with a real number taken off every entry is the softmax without: the entries are real or minus infinity, and
    one is real. -/
theorem softmax_shift {n : ℕ} (a V : Fin n → EReal) (m : EReal) (ha : ∀ j, a j ≠ ⊤) (j₀ : Fin n) (h₀ : a j₀ ≠ ⊥) (hm : IsReal m) :
    ∑ j, Ideal.div (Ideal.exp (a j - m)) (∑ k, Ideal.exp (a k - m)) * V j
      = Ideal.div (∑ j, Ideal.exp (a j) * V j) (∑ j, Ideal.exp (a j)) := by
  obtain ⟨m, rfl⟩ := hm
  have hu : ∀ j, ∃ u : ℝ, 0 ≤ u ∧ Ideal.exp (a j) = (u : EReal) ∧ Ideal.exp (a j - m) = ((u * Real.exp (-m) : ℝ) : EReal)
      ∧ (a j ≠ ⊥ → 0 < u) := by
    intro j
    rcases eq_or_ne (a j) ⊥ with h | h
    · exact ⟨0, le_rfl, by rw [h, Ideal.exp_bot]; rfl, by rw [h, EReal.bot_sub, Ideal.exp_bot, zero_mul]; rfl, fun h' => absurd h h'⟩
    · obtain ⟨r, hr⟩ := isReal_iff.mpr ⟨h, ha j⟩
      refine ⟨Real.exp r, (Real.exp_pos r).le, by rw [hr, Ideal.exp_coe], ?_, fun _ => Real.exp_pos r⟩
      rw [hr, ← EReal.coe_sub, Ideal.exp_coe, ← Real.exp_add, sub_eq_add_neg]
  choose u hu0 hu1 hu2 hu3 using hu
  have hs : 0 < Real.exp (-m) := Real.exp_pos _
  have hU : 0 < ∑ j, u j := Finset.sum_pos' (fun j _ => hu0 j) ⟨j₀, mem_univ _, hu3 j₀ h₀⟩
  have e1 : ∑ k, Ideal.exp (a k - m) = (((∑ k, u k) * Real.exp (-m) : ℝ) : EReal) := by
    simp only [hu2]
    rw [Finset.sum_mul]
    exact (map_sum (⟨⟨Real.toEReal, rfl⟩, EReal.coe_add⟩ : ℝ →+ EReal) _ _).symm
  have e2 : ∑ k, Ideal.exp (a k) = ((∑ k, u k : ℝ) : EReal) := by
    simp only [hu1]
    exact (map_sum (⟨⟨Real.toEReal, rfl⟩, EReal.coe_add⟩ : ℝ →+ EReal) _ _).symm
  rw [e1, e2, Ideal.div_coe hU.ne', ← mul_sum_of_nonneg _ _ _ (by positivity)]
  refine sum_congr rfl fun j _ => ?_
  rw [hu2, hu1, Ideal.div_coe (mul_pos hU hs).ne', ← EReal.coe_mul, mul_right_comm ((u j : ℝ) : EReal), ← EReal.coe_mul]
  congr 2
  field_simp

end Cert.Attn

end
-- ==== Proof.KernelValue.lean ====
/- The kernel's vector computations over `w` columns of keys, for any `w`, and their entries as the functions of `Cert.Attn`. -/
module

public import proofs.«01_k».proof.Proof.Gen.KernelIdeal.Skeleton
public import proofs.«01_k».proof.Proof.Math
public import Idealize.ShloMosaic.Lib.Pointwise
public import Idealize.ShloMosaic.Lib.MatmulPlain
public import Idealize.ShloMosaic.Lib.WordCmp
public import Idealize.ShloMosaic.Lib.Pipeline.Value

@[expose] public section

set_option maxRecDepth 16384

noncomputable section

namespace Cert.KernelIdeal.Hand

open Cert.KernelIdeal Cert.KernelIdeal.Gen Cert.Attn
open Idealize.ShloMosaic Idealize.ShloMosaic.TcCoe

/-- A matrix shape. -/
abbrev Mat (a b : ℕ) : Shape := ⟨2, ![a, b]⟩

/-- A select by a comparison is a choice by the compared proposition. -/
theorem select_of {α : Type} (p : Prop) [Decidable p] (a b : α) : Scalar.select (BitVec.ofBool (decide p)) a b = if p then a else b := by
  unfold Scalar.select
  by_cases h : p
  · rw [if_pos h, if_pos (by simp [h])]
  · rw [if_neg h, if_neg (by simp [h])]

/-! ## The computations -/

theorem slice_apply (o : ℕ) (ho : S256x1024.Slices ![0, o] S256x64) (ho' : o + 64 ≤ 1024) (q : FVec Ideal S256x1024 .bf16) (r : Fin 256) (d : Fin 64) :
    extractStridedSlice S256x64 ![0, o] q ho (ix2 r d) = q (ix2 r ⟨o + d.val, by omega⟩) := by
  pointwise []

section

variable {w : ℕ} (hi0 : (Mat 256 w).Iotas .tc 32 [0]) (hi1 : (Mat 256 w).Iotas .tc 32 [1]) (hb : (Mat 1 w).Broadcasts (Mat 256 w))
  (hc : (Mat 256 w).Reduces [0] ⟨1, ![w]⟩) (hs : (⟨1, ![w]⟩ : Shape).ShapeCasts (Mat 1 w)) (hs' : (Mat 1 w).ShapeCasts (Mat 1 w))
  (hr : (Mat 256 w).Reduces [1] S256)

/-- The scaled products of the queries with the keys of the head whose columns begin at `o`. -/
def scoresV (o : ℕ) (ho : S256x1024.Slices ![0, o] S256x64) (q : FVec Ideal S256x1024 .bf16) (k : FVec Ideal (Mat w 64) .bf16) : FVec Ideal (Mat 256 w) .f32 :=
  mulf (matmul (DotDims.transposedRhs 256 64 w) none (extractStridedSlice S256x64 ![0, o] q ho) k (constant _ .f32 0x00000000#32))
    (broadcast (Mat 256 w) (Scalar.ofBits .f32 0x3E000000#32))

/-- The rows' numbers in the whole matrix. -/
def rowsV (a : BitVec 32) : IVec (Mat 256 w) 32 :=
  addi (broadcast (Mat 256 w) (Scalar.muli a 256#32)) (iota .tc (Mat 256 w) 32 [0] hi0)

/-- What each row selects. -/
def selV (a : BitVec 32) (q : FVec Ideal S256x1024 .bf16) (k : FVec Ideal (Mat w 64) .bf16) : FVec Ideal (Mat 256 w) .f32 :=
  select (andi (cmpi .sge (iota .tc (Mat 256 w) 32 [1] hi1) (broadcast (Mat 256 w) 1#32)) (cmpi .slt (iota .tc (Mat 256 w) 32 [1] hi1) (rowsV hi0 a)))
    (maximumf (scoresV 0 slices_S256x1024_o0_0_S256x64 q k) (broadcast (Mat 256 w) (Scalar.ofBits .f32 0x00000000#32)))
    (broadcast (Mat 256 w) (Scalar.ofBits .f32 0x00000000#32))

/-- What the rows before each row have selected, from the row carried in. -/
def accV (a : BitVec 32) (q : FVec Ideal S256x1024 .bf16) (lt : FVec Ideal S256x256 .f32) (k : FVec Ideal (Mat w 64) .bf16) (cr : FVec Ideal (Mat 1 w) .f32) :
    FVec Ideal (Mat 256 w) .f32 :=
  addf (broadcastTo (Mat 256 w) cr hb) (matmul (DotDims.plain 256 256 w) none lt (selV hi0 hi1 a q k) (constant _ .f32 0x00000000#32))

/-- The row carried out. -/
def nextV (a : BitVec 32) (q : FVec Ideal S256x1024 .bf16) (k : FVec Ideal (Mat w 64) .bf16) (cr : FVec Ideal (Mat 1 w) .f32) : FVec Ideal (Mat 1 w) .f32 :=
  shapeCast (Mat 1 w) (addf cr (shapeCast (Mat 1 w) (multiReduction .add [0] ⟨1, ![w]⟩ (selV hi0 hi1 a q k) 0x00000000#32 hc (.inl rfl) rfl) hs)) hs'

/-- What is added to every head's scores. -/
def baseV (a : BitVec 32) (f : FVec Ideal (Mat 256 w) .f32) : FVec Ideal (Mat 256 w) .f32 :=
  select (cmpi .sle (iota .tc (Mat 256 w) 32 [1] hi1) (rowsV hi0 a)) (subf (broadcast (Mat 256 w) (Scalar.ofBits .f32 0x00000000#32)) f)
    (broadcast (Mat 256 w) (Named.named (F := Ideal) κ "mask" 0xF149F2CA#32))

/-- One head's result. -/
def headV (o : ℕ) (ho : S256x1024.Slices ![0, o] S256x64) (q : FVec Ideal S256x1024 .bf16) (b : FVec Ideal (Mat 256 w) .f32)
    (k : FVec Ideal (Mat w 64) .bf16) (v : FVec Ideal (Mat w 64) .f32) : FVec Ideal S256x64 .f32 :=
  divf (matmul (DotDims.plain 256 w 64) none (exp (addf (scoresV o ho q k) b)) v (constant _ .f32 0x00000000#32))
    (broadcastTo S256x64 (shapeCast S256x1 (multiReduction .add [1] S256 (exp (addf (scoresV o ho q k) b)) 0x00000000#32 hr (.inl rfl) rfl)
      shapeCasts_S256_S256x1) broadcasts_S256x1_S256x64)

/-! ## Their entries -/

theorem ofBits_zero : Ideal.ofBits FTy.f32 0#32 = 0 := by simp

theorem matmulT_apply {M N P : ℕ} {φ₁ φ₂ : FTy} (l : FVec Ideal (Mat M N) φ₁) (r : FVec Ideal (Mat P N) φ₂) (i : Fin M) (j : Fin P) :
    matmul (DotDims.transposedRhs M N P) none l r (constant _ .f32 0x00000000#32) (ix2 i j) = ∑ d : Fin N, l (ix2 i d) * r (ix2 j d) := by
  refine (Ideal.matmul_transposedRhs_apply none l r (constant (F := Ideal) _ .f32 0x00000000#32) i j).trans ?_
  show Ideal.ofBits FTy.f32 0#32 + _ = _
  rw [ofBits_zero, zero_add]
  rfl

theorem matmulP_apply {M N P : ℕ} {φ₁ φ₂ : FTy} (l : FVec Ideal (Mat M N) φ₁) (r : FVec Ideal (Mat N P) φ₂) (i : Fin M) (j : Fin P) :
    matmul (DotDims.plain M N P) none l r (constant _ .f32 0x00000000#32) (ix2 i j) = ∑ d : Fin N, l (ix2 i d) * r (ix2 d j) := by
  refine (Ideal.matmul_plain_apply none l r (constant (F := Ideal) _ .f32 0x00000000#32) i j).trans ?_
  show Ideal.ofBits FTy.f32 0#32 + _ = _
  rw [ofBits_zero, zero_add]
  rfl

variable {Q K V : ℕ → ℕ → EReal} {n : ℕ}

theorem scoresV_eq (o : ℕ) (ho : S256x1024.Slices ![0, o] S256x64) (ho' : o + 64 ≤ 1024) (q : FVec Ideal S256x1024 .bf16) (k : FVec Ideal (Mat w 64) .bf16)
    (hq : ∀ (r : Fin 256) (c : Fin 1024), q (ix2 r c) = Q (n + r) c) (r : Fin 256) (j : Fin w) (hk : ∀ d : Fin 64, k (ix2 j d) = K j (o + d)) :
    scoresV o ho q k (ix2 r j) = logit Q K o (n + r) j := by
  show matmul (DotDims.transposedRhs 256 64 w) none _ k _ (ix2 r j) * Ideal.ofBits FTy.f32 0x3E000000#32 = _
  rw [matmulT_apply]
  unfold logit
  refine congrArg (· * Ideal.ofBits FTy.f32 0x3E000000#32) (Finset.sum_congr rfl fun d _ => ?_)
  exact congrArg₂ (· * ·) ((slice_apply o ho ho' q r d).trans (hq r _)) (hk d)

theorem rowsV_eq {t : ℕ} (hn : n = 256 * t) (r : Fin 256) (j : Fin w) : rowsV hi0 (BitVec.ofNat 32 t) (ix2 r j) = BitVec.ofNat 32 (n + r) := by
  pointwise [rowsV]
  subst hn
  show BitVec.ofNat 32 t * 256#32 + _ = _
  rw [← BitVec.ofNat_mul, ← BitVec.ofNat_add, Nat.mul_comm]

theorem iota1_eq (r : Fin 256) (j : Fin w) : iota .tc (Mat 256 w) 32 [1] hi1 (ix2 r j) = BitVec.ofNat 32 j := by
  pointwise []

theorem selV_eq {t : ℕ} (hn : n = 256 * t) (hn' : n + 256 ≤ 2048) (hw : w ≤ 2048) (q : FVec Ideal S256x1024 .bf16) (k : FVec Ideal (Mat w 64) .bf16)
    (hq : ∀ (r : Fin 256) (c : Fin 1024), q (ix2 r c) = Q (n + r) c)
    (hk : ∀ (j : Fin w) (d : Fin 64), j.val < n + 256 → k (ix2 j d) = K j (0 + d)) (r : Fin 256) (j : Fin w) :
    selV hi0 hi1 (BitVec.ofNat 32 t) q k (ix2 r j) = sel Q K (n + r) j := by
  show Scalar.select (IntOp.andi (IntOp.cmpi .sge (iota .tc (Mat 256 w) 32 [1] hi1 (ix2 r j)) 1#32)
    (IntOp.cmpi .slt (iota .tc (Mat 256 w) 32 [1] hi1 (ix2 r j)) (rowsV hi0 (BitVec.ofNat 32 t) (ix2 r j))))
    (max (scoresV 0 slices_S256x1024_o0_0_S256x64 q k (ix2 r j)) (Ideal.ofBits FTy.f32 0#32)) (Ideal.ofBits FTy.f32 0#32) = _
  rw [iota1_eq, rowsV_eq hi0 hn, show (1#32 : BitVec 32) = BitVec.ofNat 32 1 from rfl, WordCmp.cmpi_sge_ofNat (by omega) (by omega),
    WordCmp.cmpi_slt_ofNat (by omega) (by omega), WordCmp.andi_ofBool, ← Bool.decide_and, select_of, ofBits_zero]
  unfold sel
  by_cases h : 1 ≤ j.val ∧ j.val < n + r.val
  · rw [if_pos h, if_pos h, scoresV_eq 0 _ (by omega) q k hq r j fun d => hk j d (by omega)]
  · rw [if_neg h, if_neg h]

/-- The strict lower triangle. -/
theorem ltri_eq (r x : Fin 256) : k0_pay135 (F := Ideal) (ix2 r x) = if x.val < r.val then 1 else 0 := by
  pointwise [k0_pay135]
  rw [WordCmp.cmpi_slt_ofNat (by omega) (by omega)]
  show (((BitVec.setWidth 32 (BitVec.ofBool (decide (x.val < r.val)))).toInt : ℝ) : EReal) = _
  by_cases h : x.val < r.val
  · rw [if_pos h, decide_eq_true h]
    show (((1 : ℤ) : ℝ) : EReal) = 1
    simp
  · rw [if_neg h, decide_eq_false h]
    show (((0 : ℤ) : ℝ) : EReal) = 0
    simp

theorem accV_eq {t : ℕ} (hn : n = 256 * t) (hn' : n + 256 ≤ 2048) (hw : w ≤ 2048) (q : FVec Ideal S256x1024 .bf16) (k : FVec Ideal (Mat w 64) .bf16)
    (cr : FVec Ideal (Mat 1 w) .f32) (hq : ∀ (r : Fin 256) (c : Fin 1024), q (ix2 r c) = Q (n + r) c)
    (hk : ∀ (j : Fin w) (d : Fin 64), j.val < n + 256 → k (ix2 j d) = K j (0 + d)) (hcr : ∀ j : Fin w, cr (ix2 0 j) = mask Q K n j) (r : Fin 256) (j : Fin w) :
    accV hi0 hi1 hb (BitVec.ofNat 32 t) q (k0_pay135 (F := Ideal)) k cr (ix2 r j) = mask Q K (n + r) j := by
  show broadcastTo (Mat 256 w) cr hb (ix2 r j) + matmul (DotDims.plain 256 256 w) none _ _ _ (ix2 r j) = _
  rw [matmulP_apply, mask_block]
  refine congrArg₂ (· + ·) ?_ (Finset.sum_congr rfl fun x _ => ?_)
  · rw [← hcr]
    pointwise []
    refine congrArg cr (funext fun a => ?_)
    match a with
    | ⟨0, _⟩ => exact Subsingleton.elim (α := Fin 1) _ _
    | ⟨1, _⟩ =>
      refine Fin.ext ?_
      show (if h : w = 1 then (⟨0, _⟩ : Fin w) else ⟨j.val, _⟩).val = j.val
      split <;> [skip; rfl]
      show 0 = j.val
      omega
  · rw [ltri_eq, selV_eq hi0 hi1 hn hn' hw q k hq hk]
    split
    · exact one_mul _
    · exact zero_mul _

theorem nextV_eq {t : ℕ} (hn : n = 256 * t) (hn' : n + 256 ≤ 2048) (hw : w ≤ 2048) (q : FVec Ideal S256x1024 .bf16) (k : FVec Ideal (Mat w 64) .bf16)
    (cr : FVec Ideal (Mat 1 w) .f32) (hq : ∀ (r : Fin 256) (c : Fin 1024), q (ix2 r c) = Q (n + r) c)
    (hk : ∀ (j : Fin w) (d : Fin 64), j.val < n + 256 → k (ix2 j d) = K j (0 + d)) (hcr : ∀ j : Fin w, cr (ix2 0 j) = mask Q K n j) (j : Fin w) :
    nextV hi0 hi1 hc hs hs' (BitVec.ofNat 32 t) q k cr (ix2 0 j) = mask Q K (n + 256) j := by
  have e := selV_eq hi0 hi1 hn hn' hw q k hq hk
  generalize hg : selV hi0 hi1 (BitVec.ofNat 32 t) q k = s at e
  rw [mask_next, ← hcr]
  have e' : shapeCast (Mat 1 w) (multiReduction .add [0] ⟨1, ![w]⟩ s 0x00000000#32 hc (.inl rfl) rfl) hs (ix2 0 j) = ∑ x : Fin 256, s (ix2 x j) := by
    refine (shapeCast_apply _ hs (ix2 0 j) (ix1 j) ?_).trans ?_
    · rw [Shape.rowMajor_val_one, Shape.rowMajor_val_two]
      show j.val = 0 * w + j.val
      omega
    · pointwise []
  rw [show nextV hi0 hi1 hc hs hs' (BitVec.ofNat 32 t) q k cr = shapeCast (Mat 1 w) (addf cr (shapeCast (Mat 1 w)
    (multiReduction .add [0] ⟨1, ![w]⟩ (selV hi0 hi1 (BitVec.ofNat 32 t) q k) 0x00000000#32 hc (.inl rfl) rfl) hs)) hs' from rfl, hg, shapeCast_self]
  exact congrArg₂ (· + ·) rfl (e'.trans (Finset.sum_congr rfl fun x _ => e x j))

theorem baseV_eq {t : ℕ} (hn : n = 256 * t) (hn' : n + 256 ≤ 2048) (hw : w ≤ 2048) (f : FVec Ideal (Mat 256 w) .f32)
    (hf : ∀ (r : Fin 256) (j : Fin w), f (ix2 r j) = mask Q K (n + r) j) (r : Fin 256) (j : Fin w) :
    baseV hi0 hi1 (BitVec.ofNat 32 t) f (ix2 r j) = base Q K (n + r) j := by
  show Scalar.select (IntOp.cmpi .sle (iota .tc (Mat 256 w) 32 [1] hi1 (ix2 r j)) (rowsV hi0 (BitVec.ofNat 32 t) (ix2 r j)))
    (Ideal.ofBits FTy.f32 0#32 - f (ix2 r j)) (Named.named (F := Ideal) κ "mask" 0xF149F2CA#32) = _
  rw [iota1_eq, rowsV_eq hi0 hn, WordCmp.cmpi_sle_ofNat (by omega) (by omega), select_of, show Named.named (F := Ideal) (φ := .f32) κ "mask" 0xF149F2CA#32 = ⊥ from by simp [Named.named, κ], hf,
    ofBits_zero]
  rfl

theorem headV_eq {t : ℕ} (hn : n + 256 ≤ w) (hw : w ≤ 2048) (o : ℕ) (ho : S256x1024.Slices ![0, o] S256x64) (hod : o % 64 = 0) (ho' : o + 64 ≤ 1024)
    (q : FVec Ideal S256x1024 .bf16) (b : FVec Ideal (Mat 256 w) .f32)
    (k : FVec Ideal (Mat w 64) .bf16) (v : FVec Ideal (Mat w 64) .f32) (hq : ∀ (r : Fin 256) (c : Fin 1024), q (ix2 r c) = Q (n + r) c)
    (hb : ∀ (r : Fin 256) (j : Fin w), b (ix2 r j) = base Q K (n + r) j)
    (hk : ∀ (j : Fin w) (d : Fin 64), j.val < n + 256 → k (ix2 j d) = K j (o + d))
    (hv : ∀ (j : Fin w) (d : Fin 64), j.val < n + 256 → v (ix2 j d) = V j (o + d)) (r : Fin 256) (d : Fin 64) :
    headV hr o ho q b k v (ix2 r d) = attn Q K V (n + r) (o + d) := by
  have hp : ∀ j : Fin w, exp (addf (scoresV o ho q k) b) (ix2 r j) = weight Q K (64 * ((o + d.val) / 64)) (n + r) j := by
    intro j
    have ho64 : 64 * ((o + d.val) / 64) = o := by omega
    rw [ho64]
    show Ideal.exp (scoresV o ho q k (ix2 r j) + b (ix2 r j)) = _
    by_cases hj : j.val < n + 256
    · rw [scoresV_eq o ho ho' q k hq r j fun d => hk j d hj, hb]
      rfl
    · rw [weight_above _ _ _ _ _ (by omega), hb]
      unfold base
      rw [if_neg (by omega), EReal.add_bot, Ideal.exp_bot]
  rw [← attn_eq (w := w) (Q := Q) (K := K) (V := V) (i := n + r) (c := o + d) (by omega) hw _ (fun j => v (ix2 j d)) hp (fun j hj => hv j d (by omega))]
  show Ideal.div (matmul (DotDims.plain 256 w 64) none _ v _ (ix2 r d)) _ = _
  rw [matmulP_apply]
  generalize exp (addf (scoresV o ho q k) b) = p
  refine congrArg (Ideal.div _) ?_
  pointwise []

end

/-! ## The blocks of queries, keys, values, and the last product -/

section

variable {X W : ℕ → ℕ → EReal} {G B : ℕ → EReal} {n : ℕ} (x : Vec Ideal S256x1024 .f32) (wt : Vec Ideal S1024x1024 .f32) (g b : Vec Ideal S1x1024 .f32)
  (hx : ∀ (r : Fin 256) (c : Fin 1024), x (ix2 r c) = X (n + r) c) (hw : ∀ i j : Fin 1024, wt (ix2 i j) = W i j)
  (hg : ∀ j : Fin 1024, g (ix2 0 j) = G j) (hb : ∀ j : Fin 1024, b (ix2 0 j) = B j)

include hx hw in
theorem values_eq (r : Fin 256) (c : Fin 1024) : k0_pay134 (k0_pay130 x) wt (ix2 r c) = proj X W (n + r) c := by
  pointwise [k0_pay134, k0_pay130]
  simp only [hx, hw]
  rfl

include hx hw hg hb

theorem queries_eq (r : Fin 256) (c : Fin 1024) : k0_pay131 x wt g b (ix2 r c) = normed X W G B (n + r) c := by
  pointwise [k0_pay131, k0_pay130]
  simp only [hx, hw, hg, hb]
  rfl

theorem keys_eq (r : Fin 256) (c : Fin 1024) : k0_pay133 (k0_pay132 x wt) g b (ix2 r c) = normed X W G B (n + r) c := by
  pointwise [k0_pay133, k0_pay132, k0_pay130]
  simp only [hx, hw, hg, hb]
  rfl

end

/-- The block of attention against the last weight. -/
theorem product_eq {A W : ℕ → ℕ → EReal} {n : ℕ} (x : Vec Ideal S256x1024 .f32) (wt : Vec Ideal S1024x1024 .f32)
    (hx : ∀ (r : Fin 256) (c : Fin 1024), x (ix2 r c) = A (n + r) c) (hw : ∀ i j : Fin 1024, wt (ix2 i j) = W i j) (r : Fin 256) (c : Fin 1024) :
    k0_pay3 x wt (ix2 r c) = ∑ e : Fin 1024, A (n + r) e * W c e := by
  pointwise [k0_pay3]
  simp only [hx, hw]

end Cert.KernelIdeal.Hand
-- ==== Proof.KernelPoint.lean ====
/- What one grid point leaves in the buffers it writes, from what it reads of them: the entries of the two output blocks, and
   the keys, values and carried row for the next point. -/
module

public import proofs.«01_k».proof.Proof.KernelValue
public import Idealize.ShloMosaic.Lib.WritesUnit

@[expose] public section

set_option maxRecDepth 16384

noncomputable section

namespace Cert.KernelIdeal.Hand

open Cert.KernelIdeal Cert.KernelIdeal.Gen Cert.Attn
open Idealize.ShloMosaic Idealize.ShloMosaic.TcCoe

/-- A block of 256 rows of the attention from row `n` on. -/
def attnBlk (Q K V : ℕ → ℕ → EReal) (n : ℕ) : S256x1024.Idx → EReal := fun y => attn Q K V (n + (y 0).val) (y 1).val

/-- A block of the first output. -/
def outBlk (Q K V Wo : ℕ → ℕ → EReal) (n : ℕ) : S256x1024.Idx → EReal := fun y => out Q K V Wo (n + (y 0).val) (y 1).val

/-- A block of the second output. -/
def maskBlk (Q K : ℕ → ℕ → EReal) (n : ℕ) : S256x2048.Idx → EReal := fun y => mask Q K (n + (y 0).val) (y 1).val

/-- The scratch buffers before row `n`: the keys and values of the rows before it, and, but for the first row, what those have selected. -/
structure Inv (Q K V : ℕ → ℕ → EReal) (n : ℕ) (ks : S2048x1024.Idx → EReal) (vs : S2048x1024.Idx → EReal) (cr : S8x2048.Idx → EReal) : Prop where
  keys : ∀ (j : Fin 2048) (c : Fin 1024), j.val < n → ks (ix2 j c) = K j c
  values : ∀ (j : Fin 2048) (c : Fin 1024), j.val < n → vs (ix2 j c) = V j c
  carry : 0 < n → ∀ j : Fin 2048, cr (ix2 0 j) = mask Q K n j

/-- A load at `(a, b)` reads the entry moved by `(a, b)`. -/
theorem unit_idx {A B a b m k : ℕ} (inb : ∀ d, (![a, b] : Fin 2 → ℕ) d + (![m, k] : Fin 2 → ℕ) d ≤ (Mat A B).size d) (i : Fin m) (j : Fin k) (hi : a + i.val < A) (hj : b + j.val < B) :
    (Rect.unit (s := Mat A B) ![a, b] ![m, k] inb).toLoadRect.idx (ix2 i j) = ix2 ⟨a + i.val, hi⟩ ⟨b + j.val, hj⟩ := by
  funext d
  match d with
  | ⟨0, _⟩ => exact Fin.ext (show a + 1 * i.val = a + i.val by omega)
  | ⟨1, _⟩ => exact Fin.ext (show b + 1 * j.val = b + j.val by omega)

theorem unit_emb {A B a b m k : ℕ} (inb : ∀ d, (![a, b] : Fin 2 → ℕ) d + (![m, k] : Fin 2 → ℕ) d ≤ (Mat A B).size d) (i : Fin m) (j : Fin k) (hi : a + i.val < A) (hj : b + j.val < B) :
    (Rect.unit (s := Mat A B) ![a, b] ![m, k] inb).emb (ix2 i j) = ix2 ⟨a + i.val, hi⟩ ⟨b + j.val, hj⟩ := by
  funext d
  match d with
  | ⟨0, _⟩ => exact Fin.ext (show a + 1 * i.val = a + i.val by omega)
  | ⟨1, _⟩ => exact Fin.ext (show b + 1 * j.val = b + j.val by omega)

/-- A whole input buffer read at an entry. -/
theorem whole_read {A B : ℕ} {e : EltTy} (m : Memref sig .tc .vmem (Mat A B) e) (hm : m.IsWhole) (x : Vec Ideal (Mat A B) e)
    (inb : ∀ d, (![0, 0] : Fin 2 → ℕ) d + (![A, B] : Fin 2 → ℕ) d ≤ (Mat A B).size d) (i : Fin A) (j : Fin B) :
    m.view.readAt (Elt Ideal) (Rect.unit (s := Mat A B) ![0, 0] ![A, B] inb).toLoadRect (hm.unread x) (ix2 i j) = x (ix2 i j) := by
  rw [View.readAt_apply, hm.read_unread, unit_idx inb i j (by omega) (by omega)]
  exact congrArg x (congrArg₂ ix2 (Fin.ext (Nat.zero_add _)) (Fin.ext (Nat.zero_add _)))

section

variable {Q K V : ℕ → ℕ → EReal} {n w : ℕ}

/-- One head's piece holds its columns of the attention's block. -/
theorem head_piece (hr : (Mat 256 w).Reduces [1] S256) (hn : n + 256 ≤ w) (hw : w ≤ 2048) (q : FVec Ideal S256x1024 .bf16) (b : FVec Ideal (Mat 256 w) .f32)
    (arg12 : Memref sig .tc .vmem S2048x1024 .bf16) (arg13 : Memref sig .tc .vmem S2048x1024 .f32) (g12 : arg12.view.ty.Contents (Elt Ideal)) (g13 : arg13.view.ty.Contents (Elt Ideal))
    (hq : ∀ (r : Fin 256) (c : Fin 1024), q (ix2 r c) = Q (n + r) c)
    (hb : ∀ (r : Fin 256) (j : Fin w), b (ix2 r j) = base Q K (n + r) j)
    (hk : ∀ (j : Fin 2048) (c : Fin 1024), j.val < n + 256 → arg12.view.read (Elt Ideal) g12 (ix2 j c) = K j c)
    (hv : ∀ (j : Fin 2048) (c : Fin 1024), j.val < n + 256 → arg13.view.read (Elt Ideal) g13 (ix2 j c) = V j c)
    (o : ℕ) (ho : S256x1024.Slices ![0, o] S256x64) (hod : o % 64 = 0) (ho' : o + 64 ≤ 1024)
    (i12 : ∀ d, (![0, o] : Fin 2 → ℕ) d + (![w, 64] : Fin 2 → ℕ) d ≤ S2048x1024.size d)
    (i10 : ∀ d, (![0, o] : Fin 2 → ℕ) d + (![256, 64] : Fin 2 → ℕ) d ≤ S256x1024.size d) (x : S256x64.Idx) :
    headV hr o ho q b (arg12.view.readAt (Elt Ideal) (Rect.unit (s := S2048x1024) ![0, o] ![w, 64] i12).toLoadRect g12)
      (arg13.view.readAt (Elt Ideal) (Rect.unit (s := S2048x1024) ![0, o] ![w, 64] i12).toLoadRect g13) x
    = attnBlk Q K V n ((Rect.unit (s := S256x1024) ![0, o] ![256, 64] i10).emb x) := by
  obtain ⟨r, d, rfl⟩ : ∃ (r : Fin 256) (d : Fin 64), x = ix2 r d := ⟨x 0, x 1, eq_ix2 x⟩
  rw [unit_emb i10 r d (by omega) (by omega)]
  refine (headV_eq (t := 0) (Q := Q) (K := K) (V := V) (n := n) hr hn hw o ho hod ho' q b _ _ hq hb (fun j d hj => ?_) (fun j d hj => ?_) r d).trans ?_
  · rw [View.readAt_apply, unit_idx i12 j d (by omega) (by omega), hk _ _ (by show 0 + j.val < _; omega)]
    exact congrArg (fun z => K z (o + d)) (Nat.zero_add _)
  · rw [View.readAt_apply, unit_idx i12 j d (by omega) (by omega), hv _ _ (by show 0 + j.val < _; omega)]
    exact congrArg (fun z => V z (o + d)) (Nat.zero_add _)
  · show _ = attn Q K V (n + (0 + r.val)) (o + d.val)
    rw [Nat.zero_add]

/-- The first output's block: its pieces hold the attention, and the last store takes that against the last weight. -/
theorem out_read {Wo : ℕ → ℕ → EReal} (arg10 : Memref sig .tc .vmem S256x1024 .f32) (f : arg10.view.ty.Contents (Elt Ideal)) (H : List (View.Piece (Elt Ideal) S256x1024 .f32))
    (wt : Vec Ideal S1024x1024 .f32) (hH : ∀ p ∈ H, ∀ x, p.2 x = attnBlk Q K V n (p.1.emb x)) (hcov : ∀ y, ∃ p ∈ H, y ∈ p.1.set)
    (hwt : ∀ i j : Fin 1024, wt (ix2 i j) = Wo i j) (inb inb' : ∀ d, (![0, 0] : Fin 2 → ℕ) d + (![256, 1024] : Fin 2 → ℕ) d ≤ S256x1024.size d) :
    arg10.view.read (Elt Ideal) (arg10.view.writes (Elt Ideal) f (⟨Rect.unit (s := S256x1024) ![0, 0] ![256, 1024] inb,
      k0_pay3 (arg10.view.readCov H (Rect.unit (s := S256x1024) ![0, 0] ![256, 1024] inb').toLoadRect) wt⟩ :: H))
    = outBlk Q K V Wo n := by
  funext y
  obtain ⟨r, c, rfl⟩ : ∃ (r : Fin 256) (c : Fin 1024), y = ix2 r c := ⟨y 0, y 1, eq_ix2 y⟩
  rw [View.read_writes_cons_unit_of_mem arg10.view f inb _ H (ix2 r c) (ix2 r c) rfl (fun a => by
    match a with
    | ⟨0, _⟩ => exact (Nat.zero_add _).symm
    | ⟨1, _⟩ => exact (Nat.zero_add _).symm)]
  refine product_eq (A := fun i e => attn Q K V i e) (W := Wo) (n := n) _ wt (fun r e => ?_) hwt r c
  rw [View.readCov, View.readAt_apply, unit_idx inb' r e (by omega) (by omega), View.read_writes_apply_of_pieces arg10.view arg10.view.junk (attnBlk Q K V n) H hH _ (hcov _)]
  show attn Q K V (n + (0 + r.val)) (0 + e.val) = _
  rw [Nat.zero_add, Nat.zero_add]

/-- The second output's block: what the rows have selected in the columns before `w`, zeros after them. -/
theorem mask_read (arg11 : Memref sig .tc .vmem S256x2048 .f32) (f : arg11.view.ty.Contents (Elt Ideal)) (hn : n + 256 ≤ w) (u : ℕ)
    (fv : FVec Ideal (Mat 256 w) .f32) (zv : FVec Ideal (Mat 256 u) .f32) (hf : ∀ (r : Fin 256) (j : Fin w), fv (ix2 r j) = mask Q K (n + r) j) (hz : ∀ x, zv x = 0) (hu : w + u = 2048)
    (inb : ∀ d, (![0, 0] : Fin 2 → ℕ) d + (![256, w] : Fin 2 → ℕ) d ≤ S256x2048.size d) (inb' : ∀ d, (![0, w] : Fin 2 → ℕ) d + (![256, u] : Fin 2 → ℕ) d ≤ S256x2048.size d) :
    arg11.view.read (Elt Ideal) (arg11.view.writes (Elt Ideal) f [⟨Rect.unit (s := S256x2048) ![0, w] ![256, u] inb', zv⟩,
      ⟨Rect.unit (s := S256x2048) ![0, 0] ![256, w] inb, fv⟩]) = maskBlk Q K n := by
  funext y
  obtain ⟨r, j, rfl⟩ : ∃ (r : Fin 256) (c : Fin 2048), y = ix2 r c := ⟨y 0, y 1, eq_ix2 y⟩
  show _ = mask Q K (n + r.val) j.val
  by_cases h : j.val < w
  · rw [View.read_writes_cons_unit_of_not_mem arg11.view f inb' _ _ (ix2 r j) rfl 1 (.inl h),
      View.read_writes_cons_unit_of_mem arg11.view f inb _ _ (ix2 r j) (ix2 r (⟨j.val, h⟩ : Fin w)) rfl (fun a => by
        match a with
        | ⟨0, _⟩ => exact (Nat.zero_add _).symm
        | ⟨1, _⟩ => exact (Nat.zero_add _).symm)]
    exact hf r ⟨j, h⟩
  · rw [View.read_writes_cons_unit_of_mem arg11.view f inb' _ _ (ix2 r j) (ix2 r (⟨j.val - w, by omega⟩ : Fin u)) rfl (fun a => by
        match a with
        | ⟨0, _⟩ => exact (Nat.zero_add _).symm
        | ⟨1, _⟩ => show j.val = w + (j.val - w); omega)]
    rw [mask_above _ _ _ _ (by omega)]
    exact hz _

/-- The same where the columns are all of them. -/
theorem mask_read_all (arg11 : Memref sig .tc .vmem S256x2048 .f32) (f : arg11.view.ty.Contents (Elt Ideal))
    (fv : FVec Ideal (Mat 256 2048) .f32) (hf : ∀ (r : Fin 256) (j : Fin 2048), fv (ix2 r j) = mask Q K (n + r) j)
    (inb : ∀ d, (![0, 0] : Fin 2 → ℕ) d + (![256, 2048] : Fin 2 → ℕ) d ≤ S256x2048.size d) :
    arg11.view.read (Elt Ideal) (arg11.view.writes (Elt Ideal) f [⟨Rect.unit (s := S256x2048) ![0, 0] ![256, 2048] inb, fv⟩]) = maskBlk Q K n := by
  funext y
  obtain ⟨r, j, rfl⟩ : ∃ (r : Fin 256) (c : Fin 2048), y = ix2 r c := ⟨y 0, y 1, eq_ix2 y⟩
  rw [View.read_writes_cons_unit_of_mem arg11.view f inb _ _ (ix2 r j) (ix2 r j) rfl (fun a => by
        match a with
        | ⟨0, _⟩ => exact (Nat.zero_add _).symm
        | ⟨1, _⟩ => exact (Nat.zero_add _).symm)]
  exact hf r j

/-- The row carried out: the columns before `w` are stored, the others are zero before and after. -/
theorem carry_read (arg14 : Memref sig .tc .vmem S8x2048 .f32) (f : arg14.view.ty.Contents (Elt Ideal)) (L : List (View.Piece (Elt Ideal) S8x2048 .f32)) (hn : n + 256 ≤ w)
    (hL : ∀ j : Fin 2048, arg14.view.read (Elt Ideal) (arg14.view.writes (Elt Ideal) f L) (ix2 0 j) = mask Q K n j)
    (nv : FVec Ideal (Mat 1 w) .f32) (hv : ∀ j : Fin w, nv (ix2 0 j) = mask Q K (n + 256) j)
    (inb : ∀ d, (![0, 0] : Fin 2 → ℕ) d + (![1, w] : Fin 2 → ℕ) d ≤ S8x2048.size d) (j : Fin 2048) :
    arg14.view.read (Elt Ideal) (arg14.view.writes (Elt Ideal) f (⟨Rect.unit (s := S8x2048) ![0, 0] ![1, w] inb, nv⟩ :: L)) (ix2 0 j) = mask Q K (n + 256) j := by
  by_cases h : j.val < w
  · rw [View.read_writes_cons_unit_of_mem arg14.view f inb _ _ (ix2 0 j) (ix2 (0 : Fin 1) (⟨j.val, h⟩ : Fin w)) rfl (fun a => by
        match a with
        | ⟨0, _⟩ => rfl
        | ⟨1, _⟩ => exact (Nat.zero_add _).symm)]
    exact hv ⟨j, h⟩
  · rw [View.read_writes_cons_unit_of_not_mem arg14.view f inb _ _ (ix2 0 j) rfl 1 (.inr (by show 0 + w ≤ j.val; omega)), hL,
      mask_above _ _ _ _ (by omega), mask_above _ _ _ _ (by omega)]

/-- The carried row as it is loaded. -/
theorem carry_load (arg14 : Memref sig .tc .vmem S8x2048 .f32) (g : arg14.view.ty.Contents (Elt Ideal)) (hw : w ≤ 2048)
    (hg : ∀ j : Fin 2048, arg14.view.read (Elt Ideal) g (ix2 0 j) = mask Q K n j)
    (inb : ∀ d, (![0, 0] : Fin 2 → ℕ) d + (![1, w] : Fin 2 → ℕ) d ≤ S8x2048.size d) (j : Fin w) :
    arg14.view.readAt (Elt Ideal) (Rect.unit (s := S8x2048) ![0, 0] ![1, w] inb).toLoadRect g (ix2 0 j) = mask Q K n j := by
  rw [View.readAt_apply, unit_idx inb 0 j (by omega) (by omega)]
  refine (hg ⟨0 + j.val, by omega⟩).trans (congrArg (mask Q K n) (Nat.zero_add _))

/-- The cleared row. -/
theorem carry_clear (arg14 : Memref sig .tc .vmem S8x2048 .f32) (f : arg14.view.ty.Contents (Elt Ideal)) (hn : n = 0)
    (inb : ∀ d, (![0, 0] : Fin 2 → ℕ) d + (![8, 2048] : Fin 2 → ℕ) d ≤ S8x2048.size d) (j : Fin 2048) :
    arg14.view.read (Elt Ideal) (arg14.view.writes (Elt Ideal) f [⟨Rect.unit (s := S8x2048) ![0, 0] ![8, 2048] inb, k0_pay129 (F := Ideal)⟩]) (ix2 0 j) = mask Q K n j := by
  subst hn
  rw [View.read_writes_cons_unit_of_mem arg14.view f inb _ _ (ix2 0 j) (ix2 (0 : Fin 8) j) rfl (fun a => by
        match a with
        | ⟨0, _⟩ => rfl
        | ⟨1, _⟩ => exact (Nat.zero_add _).symm)]
  rw [mask_zero]
  pointwise [k0_pay129]

/-- The stored rows of a scratch matrix: 256 more of them than before. -/
theorem rows_read {e : EltTy} {M : ℕ → ℕ → Elt Ideal e} (m : Memref sig .tc .vmem S2048x1024 e) (f : m.view.ty.Contents (Elt Ideal)) (bl : Vec Ideal S256x1024 e)
    (off : Fin 2 → ℕ) (hoff : off = ![n, 0]) (inb : ∀ d, off d + S256x1024.size d ≤ S2048x1024.size d)
    (hb : ∀ (r : Fin 256) (c : Fin 1024), bl (ix2 r c) = M (n + r) c)
    (hf : ∀ (j : Fin 2048) (c : Fin 1024), j.val < n → m.view.read (Elt Ideal) f (ix2 j c) = M j c) (j : Fin 2048) (c : Fin 1024) (hj : j.val < n + 256) :
    m.view.read (Elt Ideal) (m.view.writes (Elt Ideal) f [⟨Rect.unit (s := S2048x1024) off S256x1024.size inb, bl⟩]) (ix2 j c) = M j c := by
  by_cases h : j.val < n
  · rw [View.read_writes_cons_unit_of_not_mem m.view f inb _ _ (ix2 j c) hoff 0 (.inl h)]
    exact hf j c h
  · rw [View.read_writes_cons_unit_of_mem m.view f inb _ _ (ix2 j c) (ix2 (⟨j.val - n, by omega⟩ : Fin 256) c) hoff (fun a => by
        match a with
        | ⟨0, _⟩ => show j.val = n + (j.val - n); omega
        | ⟨1, _⟩ => exact (Nat.zero_add _).symm)]
    refine (hb _ c).trans (congrArg (fun z => M z c) (by show n + (j.val - n) = j.val; omega))

end

end Cert.KernelIdeal.Hand
-- ==== Proof.IdealBody.lean ====
/- One grid point of `Cert.KernelIdeal` at its exact values: from 256 rows of the input, the weights and the scratch buffers
   as the points before it left them, the body leaves its rows of both outputs and the scratch buffers as the next point
   takes them. -/
module

public import proofs.«01_k».proof.Proof.KernelPoint
public import proofs.«01_k».proof.Proof.Gen.KernelIdeal.Frame

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem zero_block {u : ℕ} (x : (Mat 256 u).Idx) : broadcast (Mat 256 u) (Scalar.ofBits (F := Ideal) .f32 0x00000000#32) x = 0 := ofBits_zero

local notation "𝕄" => MT nD τ sig Unit (Elt Ideal) ℕ (UR sig nD τ) ℕ

/-- A whole input buffer as the body loads it. -/
def ld {A B : ℕ} {e : EltTy} (m : Memref sig .tc .vmem (Mat A B) e) (hm : m.IsWhole) (x : Vec Ideal (Mat A B) e) : Vec Ideal (Mat A B) e :=
  m.view.readAt (Elt Ideal) (Rect.unit (s := Mat A B) ![0, 0] ![A, B] (fun d => by
    match d with
    | ⟨0, _⟩ => exact (Nat.zero_add A).le
    | ⟨1, _⟩ => exact (Nat.zero_add B).le)).toLoadRect (hm.unread x)

theorem ld_apply {A B : ℕ} {e : EltTy} (m : Memref sig .tc .vmem (Mat A B) e) (hm : m.IsWhole) (x : Vec Ideal (Mat A B) e) (i : Fin A) (j : Fin B) :
    ld m hm x (ix2 i j) = x (ix2 i j) := whole_read m hm x _ i j

/-- The condition under which the body clears the carried row: the first grid point. -/
abbrev firstCond (i : grid0.Coords) : Prop :=
  (Scalar.cmpi .ne (Scalar.extui (Scalar.cmpi .eq (BitVec.ofNat 32 (i 0).val) 0#32)) 0#32) = 1#1

/-- The ways in which the body's five conditions can hold: each pair of grid points takes one of the four widths, and the
    carried row is cleared at the first point, which is of the first width. -/
inductive Case (i : grid0.Coords) : Prop
  | start (h0 : firstCond i) (h1 : k0_cond2 i = 1#1) (h2 : ¬ k0_cond3 i = 1#1) (h3 : ¬ k0_cond4 i = 1#1) (h4 : ¬ k0_cond5 i = 1#1)
  | w512 (h0 : ¬ firstCond i) (h1 : k0_cond2 i = 1#1) (h2 : ¬ k0_cond3 i = 1#1) (h3 : ¬ k0_cond4 i = 1#1) (h4 : ¬ k0_cond5 i = 1#1)
  | w1024 (h0 : ¬ firstCond i) (h1 : ¬ k0_cond2 i = 1#1) (h2 : k0_cond3 i = 1#1) (h3 : ¬ k0_cond4 i = 1#1) (h4 : ¬ k0_cond5 i = 1#1)
  | w1536 (h0 : ¬ firstCond i) (h1 : ¬ k0_cond2 i = 1#1) (h2 : ¬ k0_cond3 i = 1#1) (h3 : k0_cond4 i = 1#1) (h4 : ¬ k0_cond5 i = 1#1)
  | w2048 (h0 : ¬ firstCond i) (h1 : ¬ k0_cond2 i = 1#1) (h2 : ¬ k0_cond3 i = 1#1) (h3 : ¬ k0_cond4 i = 1#1) (h4 : k0_cond5 i = 1#1)

/-- Every grid point is of one of the cases. -/
theorem case_of (t : Fin cfg0.N) : Case (grid0.coords t) := by
  have h : ∀ t : Fin grid0.N,
      (firstCond (grid0.coords t) ∧ k0_cond2 (grid0.coords t) = 1#1 ∧ ¬ k0_cond3 (grid0.coords t) = 1#1 ∧ ¬ k0_cond4 (grid0.coords t) = 1#1 ∧ ¬ k0_cond5 (grid0.coords t) = 1#1)
      ∨ (¬ firstCond (grid0.coords t) ∧ k0_cond2 (grid0.coords t) = 1#1 ∧ ¬ k0_cond3 (grid0.coords t) = 1#1 ∧ ¬ k0_cond4 (grid0.coords t) = 1#1 ∧ ¬ k0_cond5 (grid0.coords t) = 1#1)
      ∨ (¬ firstCond (grid0.coords t) ∧ ¬ k0_cond2 (grid0.coords t) = 1#1 ∧ k0_cond3 (grid0.coords t) = 1#1 ∧ ¬ k0_cond4 (grid0.coords t) = 1#1 ∧ ¬ k0_cond5 (grid0.coords t) = 1#1)
      ∨ (¬ firstCond (grid0.coords t) ∧ ¬ k0_cond2 (grid0.coords t) = 1#1 ∧ ¬ k0_cond3 (grid0.coords t) = 1#1 ∧ k0_cond4 (grid0.coords t) = 1#1 ∧ ¬ k0_cond5 (grid0.coords t) = 1#1)
      ∨ (¬ firstCond (grid0.coords t) ∧ ¬ k0_cond2 (grid0.coords t) = 1#1 ∧ ¬ k0_cond3 (grid0.coords t) = 1#1 ∧ ¬ k0_cond4 (grid0.coords t) = 1#1 ∧ k0_cond5 (grid0.coords t) = 1#1) := by
    decide +kernel
  rcases h t with ⟨a, b, d, e, f⟩ | ⟨a, b, d, e, f⟩ | ⟨a, b, d, e, f⟩ | ⟨a, b, d, e, f⟩ | ⟨a, b, d, e, f⟩
  · exact .start a b d e f
  · exact .w512 a b d e f
  · exact .w1024 a b d e f
  · exact .w1536 a b d e f
  · exact .w2048 a b d e f

/-- Where a grid point stores its keys and values, and which columns its width takes in. -/
structure Place (i : grid0.Coords) : Prop where
  off : k0_off1 i = ![256 * (i 0).val, 0]
  lt : (i 0).val < 8
  first : firstCond i → (i 0).val = 0
  later : ¬ firstCond i → 0 < (i 0).val
  w512 : k0_cond2 i = 1#1 → 256 * (i 0).val + 256 ≤ 512
  w1024 : k0_cond3 i = 1#1 → 256 * (i 0).val + 256 ≤ 1024
  w1536 : k0_cond4 i = 1#1 → 256 * (i 0).val + 256 ≤ 1536

/-- Every grid point is so placed. -/
theorem place_of (t : Fin cfg0.N) : Place (grid0.coords t) := by
  have h : ∀ t : Fin grid0.N, k0_off1 (grid0.coords t) = ![256 * (grid0.coords t 0).val, 0] ∧ (grid0.coords t 0).val < 8
      ∧ (firstCond (grid0.coords t) → (grid0.coords t 0).val = 0) ∧ (¬ firstCond (grid0.coords t) → 0 < (grid0.coords t 0).val)
      ∧ (k0_cond2 (grid0.coords t) = 1#1 → 256 * (grid0.coords t 0).val + 256 ≤ 512)
      ∧ (k0_cond3 (grid0.coords t) = 1#1 → 256 * (grid0.coords t 0).val + 256 ≤ 1024)
      ∧ (k0_cond4 (grid0.coords t) = 1#1 → 256 * (grid0.coords t 0).val + 256 ≤ 1536) := by
    decide +kernel
  obtain ⟨a, b, d, e, f, g, k⟩ := h t
  exact ⟨a, b, d, e, f, g, k⟩

/-- A head's keys as they are loaded. -/
theorem key_load {K : ℕ → ℕ → EReal} {n w : ℕ} (arg12 : Memref sig .tc .vmem S2048x1024 .bf16) (g12 : arg12.view.ty.Contents (Elt Ideal)) (hw : w ≤ 2048)
    (hk : ∀ (j : Fin 2048) (c : Fin 1024), j.val < n + 256 → arg12.view.read (Elt Ideal) g12 (ix2 j c) = K j c)
    (i12 : ∀ d, (![0, 0] : Fin 2 → ℕ) d + (![w, 64] : Fin 2 → ℕ) d ≤ S2048x1024.size d) (j : Fin w) (d : Fin 64) (hj : j.val < n + 256) :
    arg12.view.readAt (Elt Ideal) (Rect.unit (s := S2048x1024) ![0, 0] ![w, 64] i12).toLoadRect g12 (ix2 j d) = K j (0 + d) := by
  rw [View.readAt_apply, unit_idx i12 j d (by omega) (by omega), hk _ _ (by show 0 + j.val < _; omega)]
  exact congrArg (fun z => K z (0 + d)) (Nat.zero_add _)

set_option maxHeartbeats 1000000 in
/-- One grid point, exactly. -/
theorem pointRun (c : Dev nD) (i : grid0.Coords) (hi : Case i) (hp : Place i)
    (arg1 : Memref sig .tc .vmem S256x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x1024 .f32) (harg4 : arg4.IsWhole)
    (arg5 : Memref sig .tc .vmem S1024x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S256x1024 .f32) (harg10 : arg10.IsWhole)
    (arg11 : Memref sig .tc .vmem S256x2048 .f32) (harg11 : arg11.IsWhole)
    (arg12 : Memref sig .tc .vmem S2048x1024 .bf16) (harg12 : arg12.IsWhole)
    (arg13 : Memref sig .tc .vmem S2048x1024 .f32) (harg13 : arg13.IsWhole)
    (arg14 : Memref sig .tc .vmem S8x2048 .f32) (harg14 : arg14.IsWhole)
    (x0 : Vec Ideal S256x1024 .f32) (x1 : Vec Ideal S1024x1024 .f32) (x2 : Vec Ideal S1024x1024 .f32) (x3 : Vec Ideal S1024x1024 .f32) (x4 : Vec Ideal S1024x1024 .f32) (x5 : Vec Ideal S1x1024 .f32) (x6 : Vec Ideal S1x1024 .f32) (x7 : Vec Ideal S1x1024 .f32) (x8 : Vec Ideal S1x1024 .f32)
    {X Wq Wk Wv Wo : ℕ → ℕ → EReal} {gq bq gk bk : ℕ → EReal}
    (hx0 : ∀ (r : Fin 256) (j : Fin 1024), x0 (ix2 r j) = X (256 * (i 0).val + r) j)
    (hx1 : ∀ r j : Fin 1024, x1 (ix2 r j) = Wq r j) (hx2 : ∀ r j : Fin 1024, x2 (ix2 r j) = Wk r j)
    (hx3 : ∀ r j : Fin 1024, x3 (ix2 r j) = Wv r j) (hx4 : ∀ r j : Fin 1024, x4 (ix2 r j) = Wo r j)
    (hx5 : ∀ j : Fin 1024, x5 (ix2 0 j) = gq j) (hx6 : ∀ j : Fin 1024, x6 (ix2 0 j) = bq j)
    (hx7 : ∀ j : Fin 1024, x7 (ix2 0 j) = gk j) (hx8 : ∀ j : Fin 1024, x8 (ix2 0 j) = bk j)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (∃ ks vs cr, owns (c : Thread nD τ) arg12 fullShare ks ∗ owns (c : Thread nD τ) arg13 fullShare vs ∗ owns (c : Thread nD τ) arg14 fullShare cr ∗ ⌜Inv (normed X Wq gq bq) (normed X Wk gk bk) (proj X Wv) (256 * (i 0).val) ks vs cr⌝)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (outBlk (normed X Wq gq bq) (normed X Wk gk bk) (proj X Wv) Wo (256 * (i 0).val))
            ∗ owns (c : Thread nD τ) arg11 fullShare (maskBlk (normed X Wq gq bq) (normed X Wk gk bk) (256 * (i 0).val))
            ∗ (∃ ks vs cr, owns (c : Thread nD τ) arg12 fullShare ks ∗ owns (c : Thread nD τ) arg13 fullShare vs ∗ owns (c : Thread nD τ) arg14 fullShare cr ∗ ⌜Inv (normed X Wq gq bq) (normed X Wk gk bk) (proj X Wv) (256 * (i 0).val + 256) ks vs cr⌝)) -∗ K ⟨⟩))
      ⊢ wp frame (wpE (defs₀ (F := Ideal)) Variants.none c none) E (cc0__attn_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__attn_kernel_eq_skeleton]; unfold cc0__attn_kernel_skel
  simp only [k0_part29_eq_skeleton, k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ks, %vs, %cr, ⟨%f11, %hf11, H11⟩, ⟨%f12, %hf12, H12⟩, ⟨%f13, %hf13, H13⟩, %hinv⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  subst hf11; subst hf12; subst hf13
  have hlt := hp.lt
  have hX : ∀ (r : Fin 256) (j : Fin 1024), ld arg1 harg1 x0 (ix2 r j) = X (256 * (i 0).val + r) j := fun r j => (ld_apply ..).trans (hx0 r j)
  have hWo : ∀ r j : Fin 1024, ld arg5 harg5 x4 (ix2 r j) = Wo r j := fun r j => (ld_apply ..).trans (hx4 r j)
  have hq : ∀ (r : Fin 256) (j : Fin 1024), k0_pay131 (ld arg1 harg1 x0) (ld arg2 harg2 x1) (ld arg6 harg6 x5) (ld arg7 harg7 x6) (ix2 r j) = normed X Wq gq bq (256 * (i 0).val + r) j :=
    queries_eq _ _ _ _ hX (fun r j => (ld_apply ..).trans (hx1 r j)) (fun j => (ld_apply ..).trans (hx5 j)) (fun j => (ld_apply ..).trans (hx6 j))
  have hK := rows_read (e := .bf16) (M := normed X Wk gk bk) arg12 f11 (k0_pay133 (k0_pay132 (ld arg1 harg1 x0) (ld arg3 harg3 x2)) (ld arg8 harg8 x7) (ld arg9 harg9 x8)) (k0_off1 i) hp.off (k0_off1_inb i)
    (keys_eq _ _ _ _ hX (fun r j => (ld_apply ..).trans (hx2 r j)) (fun j => (ld_apply ..).trans (hx7 j)) (fun j => (ld_apply ..).trans (hx8 j))) hinv.keys
  have hV := rows_read (e := .f32) (M := proj X Wv) arg13 f12 (k0_pay134 (k0_pay130 (ld arg1 harg1 x0)) (ld arg4 harg4 x3)) (k0_off1 i) hp.off (k0_off1_inb i)
    (values_eq _ _ hX (fun r j => (ld_apply ..).trans (hx3 r j))) hinv.values
  have hn8 : 256 * (i 0).val + 256 ≤ 2048 := by omega
  rcases hi with ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩
  on_goal 1 =>
    have hw : 256 * (i 0).val + 256 ≤ 512 := hp.w512 hc1
    have hcr := carry_clear (Q := normed X Wq gq bq) (K := normed X Wk gk bk) arg14 f13 (n := 256 * (i 0).val) (by rw [hp.first hc0]) (by decide)
    have hcj := carry_clear (Q := normed X Wq gq bq) (K := normed X Wk gk bk) arg14 arg14.view.junk (n := 256 * (i 0).val) (by rw [hp.first hc0]) (by decide)
    have hkl := key_load (w := 512) arg12 _ (by decide) hK (by decide)
    have hcl := carry_load (w := 512) arg14 _ (by decide) hcj (by decide)
    have ha := accV_eq iota_S256x512_d0_w32 iota_S256x512_d1_w32 broadcasts_S1x512_S256x512 rfl hn8 (by decide) _ _ _ hq hkl hcl
    have hb := baseV_eq iota_S256x512_d0_w32 iota_S256x512_d1_w32 rfl hn8 (by decide) _ ha
    have hx := nextV_eq iota_S256x512_d0_w32 iota_S256x512_d1_w32 reduces_S256x512_S512 shapeCasts_S512_S1x512 shapeCasts_S1x512_S1x512 rfl hn8 (by decide) _ _ _ hq hkl hcl
    have hd := head_piece reduces_S256x512_S256 hw (by decide) _ _ arg12 arg13 _ _ hq hb hK hV
    have hm := fun a b => mask_read arg11 f10 hw 1536 _ _ ha zero_block rfl a b
  on_goal 2 =>
    have hw : 256 * (i 0).val + 256 ≤ 512 := hp.w512 hc1
    have hcr := hinv.carry (Nat.mul_pos (by decide) (hp.later hc0))
    have hkl := key_load (w := 512) arg12 _ (by decide) hK (by decide)
    have hcl := carry_load (w := 512) arg14 _ (by decide) hcr (by decide)
    have ha := accV_eq iota_S256x512_d0_w32 iota_S256x512_d1_w32 broadcasts_S1x512_S256x512 rfl hn8 (by decide) _ _ _ hq hkl hcl
    have hb := baseV_eq iota_S256x512_d0_w32 iota_S256x512_d1_w32 rfl hn8 (by decide) _ ha
    have hx := nextV_eq iota_S256x512_d0_w32 iota_S256x512_d1_w32 reduces_S256x512_S512 shapeCasts_S512_S1x512 shapeCasts_S1x512_S1x512 rfl hn8 (by decide) _ _ _ hq hkl hcl
    have hd := head_piece reduces_S256x512_S256 hw (by decide) _ _ arg12 arg13 _ _ hq hb hK hV
    have hm := fun a b => mask_read arg11 f10 hw 1536 _ _ ha zero_block rfl a b
  on_goal 3 =>
    have hw : 256 * (i 0).val + 256 ≤ 1024 := hp.w1024 hc2
    have hcr := hinv.carry (Nat.mul_pos (by decide) (hp.later hc0))
    have hkl := key_load (w := 1024) arg12 _ (by decide) hK (by decide)
    have hcl := carry_load (w := 1024) arg14 _ (by decide) hcr (by decide)
    have ha := accV_eq iota_S256x1024_d0_w32 iota_S256x1024_d1_w32 broadcasts_S1x1024_S256x1024 rfl hn8 (by decide) _ _ _ hq hkl hcl
    have hb := baseV_eq iota_S256x1024_d0_w32 iota_S256x1024_d1_w32 rfl hn8 (by decide) _ ha
    have hx := nextV_eq iota_S256x1024_d0_w32 iota_S256x1024_d1_w32 reduces_S256x1024_S1024 shapeCasts_S1024_S1x1024 shapeCasts_S1x1024_S1x1024 rfl hn8 (by decide) _ _ _ hq hkl hcl
    have hd := head_piece reduces_S256x1024_S256 hw (by decide) _ _ arg12 arg13 _ _ hq hb hK hV
    have hm := fun a b => mask_read arg11 f10 hw 1024 _ _ ha zero_block rfl a b
  on_goal 4 =>
    have hw : 256 * (i 0).val + 256 ≤ 1536 := hp.w1536 hc3
    have hcr := hinv.carry (Nat.mul_pos (by decide) (hp.later hc0))
    have hkl := key_load (w := 1536) arg12 _ (by decide) hK (by decide)
    have hcl := carry_load (w := 1536) arg14 _ (by decide) hcr (by decide)
    have ha := accV_eq iota_S256x1536_d0_w32 iota_S256x1536_d1_w32 broadcasts_S1x1536_S256x1536 rfl hn8 (by decide) _ _ _ hq hkl hcl
    have hb := baseV_eq iota_S256x1536_d0_w32 iota_S256x1536_d1_w32 rfl hn8 (by decide) _ ha
    have hx := nextV_eq iota_S256x1536_d0_w32 iota_S256x1536_d1_w32 reduces_S256x1536_S1536 shapeCasts_S1536_S1x1536 shapeCasts_S1x1536_S1x1536 rfl hn8 (by decide) _ _ _ hq hkl hcl
    have hd := head_piece reduces_S256x1536_S256 hw (by decide) _ _ arg12 arg13 _ _ hq hb hK hV
    have hm := fun a b => mask_read arg11 f10 hw 512 _ _ ha zero_block rfl a b
  on_goal 5 =>
    have hw : 256 * (i 0).val + 256 ≤ 2048 := hn8
    have hcr := hinv.carry (Nat.mul_pos (by decide) (hp.later hc0))
    have hkl := key_load (w := 2048) arg12 _ (by decide) hK (by decide)
    have hcl := carry_load (w := 2048) arg14 _ (by decide) hcr (by decide)
    have ha := accV_eq iota_S256x2048_d0_w32 iota_S256x2048_d1_w32 broadcasts_S1x2048_S256x2048 rfl hn8 (by decide) _ _ _ hq hkl hcl
    have hb := baseV_eq iota_S256x2048_d0_w32 iota_S256x2048_d1_w32 rfl hn8 (by decide) _ ha
    have hx := nextV_eq iota_S256x2048_d0_w32 iota_S256x2048_d1_w32 reduces_S256x2048_S2048 shapeCasts_S2048_S1x2048 shapeCasts_S1x2048_S1x2048 rfl hn8 (by decide) _ _ _ hq hkl hcl
    have hd := head_piece reduces_S256x2048_S256 hw (by decide) _ _ arg12 arg13 _ _ hq hb hK hV
    have hm := fun b => mask_read_all arg11 f10 _ ha b
  all_goals
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro
      exact out_read arg10 f9 _ _ (List.forall_mem_cons.2 ⟨hd 960 slices_S256x1024_o0_960_S256x64 rfl (by decide) _ (by decide), List.forall_mem_cons.2 ⟨hd 896 slices_S256x1024_o0_896_S256x64 rfl (by decide) _ (by decide), List.forall_mem_cons.2 ⟨hd 832 slices_S256x1024_o0_832_S256x64 rfl (by decide) _ (by decide), List.forall_mem_cons.2 ⟨hd 768 slices_S256x1024_o0_768_S256x64 rfl (by decide) _ (by decide), List.forall_mem_cons.2 ⟨hd 704 slices_S256x1024_o0_704_S256x64 rfl (by decide) _ (by decide), List.forall_mem_cons.2 ⟨hd 640 slices_S256x1024_o0_640_S256x64 rfl (by decide) _ (by decide), List.forall_mem_cons.2 ⟨hd 576 slices_S256x1024_o0_576_S256x64 rfl (by decide) _ (by decide), List.forall_mem_cons.2 ⟨hd 512 slices_S256x1024_o0_512_S256x64 rfl (by decide) _ (by decide), List.forall_mem_cons.2 ⟨hd 448 slices_S256x1024_o0_448_S256x64 rfl (by decide) _ (by decide), List.forall_mem_cons.2 ⟨hd 384 slices_S256x1024_o0_384_S256x64 rfl (by decide) _ (by decide), List.forall_mem_cons.2 ⟨hd 320 slices_S256x1024_o0_320_S256x64 rfl (by decide) _ (by decide), List.forall_mem_cons.2 ⟨hd 256 slices_S256x1024_o0_256_S256x64 rfl (by decide) _ (by decide), List.forall_mem_cons.2 ⟨hd 192 slices_S256x1024_o0_192_S256x64 rfl (by decide) _ (by decide), List.forall_mem_cons.2 ⟨hd 128 slices_S256x1024_o0_128_S256x64 rfl (by decide) _ (by decide), List.forall_mem_cons.2 ⟨hd 64 slices_S256x1024_o0_64_S256x64 rfl (by decide) _ (by decide), List.forall_mem_cons.2 ⟨hd 0 slices_S256x1024_o0_0_S256x64 rfl (by decide) _ (by decide),
        fun _ h => absurd h List.not_mem_nil⟩⟩⟩⟩⟩⟩⟩⟩⟩⟩⟩⟩⟩⟩⟩⟩) (View.cover_of_tiled _ ![256, 64] (by rfl)) hWo _ _
    isplitl [H10]
    · iexists _; isplitr; swap; · iexact H10
      ipureintro
      exact hm ..
    iexists _, _, _
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    ipureintro
    first
      | exact ⟨hK, hV, fun _ => carry_read arg14 f13 [] hw hcr _ hx _⟩
      | exact ⟨hK, hV, fun _ => carry_read arg14 f13 _ hw hcr _ hx _⟩

end Cert.KernelIdeal.Hand
-- ==== Proof.IdealLaunch.lean ====
/- The launch of `Cert.KernelIdeal` at its exact values: from one grid point (`pointRun`) to what both results hold at the end. -/
module

public import proofs.«01_k».proof.Proof.Gen.KernelIdeal.Frame
public import proofs.«01_k».proof.Proof.IdealBody
public import Idealize.ShloMosaic.Lib.Claim
public import Idealize.ShloMosaic.Lib.StableHlo.ReadAt
public import Idealize.ShloMosaic.Lib.Pipeline.ValueKit

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (c : Dev nD)

/-! ## The arguments as functions of row and column -/

/-- A matrix's entries, zero outside it. -/
def mat {A B : ℕ} (w : (Mat A B).Idx → EReal) (i j : ℕ) : EReal := if h : i < A ∧ j < B then w (ix2 ⟨i, h.1⟩ ⟨j, h.2⟩) else 0

theorem mat_apply {A B : ℕ} (w : (Mat A B).Idx → EReal) (i : Fin A) (j : Fin B) : mat w i j = w (ix2 i j) := dif_pos ⟨i.isLt, j.isLt⟩

/-- A vector's entries, zero outside it. -/
def vec (w : S1024.Idx → EReal) (j : ℕ) : EReal := if h : j < 1024 then w (ix1 ⟨j, h⟩) else 0

theorem vec_apply (w : S1024.Idx → EReal) (j : Fin 1024) : vec w j = w (ix1 j) := dif_pos j.isLt

/-- The input's rows. -/
def X (i j : ℕ) : EReal := if h : i < 2048 ∧ j < 1024 then (m ((c : Thread nD τ).loc main_arg0) : S1x2048x1024.Idx → EReal) (ix3 0 ⟨i, h.1⟩ ⟨j, h.2⟩) else 0

theorem X_apply (i : Fin 2048) (j : Fin 1024) : X m c i j = (m ((c : Thread nD τ).loc main_arg0) : S1x2048x1024.Idx → EReal) (ix3 0 i j) := dif_pos ⟨i.isLt, j.isLt⟩

/-- The queries. -/
def Qm : ℕ → ℕ → EReal := normed (X m c) (mat (m ((c : Thread nD τ).loc main_arg1))) (vec (m ((c : Thread nD τ).loc main_arg5))) (vec (m ((c : Thread nD τ).loc main_arg6)))
/-- The keys. -/
def Km : ℕ → ℕ → EReal := normed (X m c) (mat (m ((c : Thread nD τ).loc main_arg2))) (vec (m ((c : Thread nD τ).loc main_arg7))) (vec (m ((c : Thread nD τ).loc main_arg8)))
/-- The values. -/
def Vm : ℕ → ℕ → EReal := proj (X m c) (mat (m ((c : Thread nD τ).loc main_arg3)))
/-- The last weight. -/
def Wm : ℕ → ℕ → EReal := mat (m ((c : Thread nD τ).loc main_arg4))

/-! ## The input windows' blocks -/

theorem coord_eq (t : Fin cfg0.N) : (grid0.coords t 0).val = t.val := (by decide +kernel : ∀ t : Fin grid0.N, (grid0.coords t 0).val = t.val) t

/-- The input as the region finds it. -/
theorem entry0 (i : Fin 2048) (j : Fin 1024) : (V m c main_v0 : S2048x1024.Idx → EReal) (ix2 i j) = X m c i j := by
  rw [X_apply]
  unfold V V0
  after_reads_at

theorem blk0_eq (t : Fin cfg0.N) (r : Fin 256) (j : Fin 1024) : (iblk m c 0 t : S256x1024.Idx → EReal) (ix2 r j) = X m c (256 * (grid0.coords t 0).val + r) j := by
  have ht := (place_of t).lt
  have e : (win0_0.blk t).view.emb (ix2 r j) = (ix2 ⟨256 * (grid0.coords t 0).val + r, by omega⟩ j : S2048x1024.Idx) := by
    blk_ext [(by decide +kernel : ∀ t : Fin grid0.N, win0_0.index t = ![(grid0.coords t 0).val, 0]) t]
  exact (congrArg (V m c main_v0) e).trans (entry0 m c _ j)

theorem blk1_eq (t : Fin cfg0.N) (r j : Fin 1024) : (iblk m c 1 t : S1024x1024.Idx → EReal) (ix2 r j) = mat (m ((c : Thread nD τ).loc main_arg1)) r j := by
  have e : (win0_1.blk t).view.emb (ix2 r j) = (ix2 r j : S1024x1024.Idx) := by
    blk_ext [(by decide +kernel : ∀ t : Fin grid0.N, win0_1.index t = ![0, 0]) t]
  exact (congrArg (V m c main_arg1) e).trans ((congrFun (V_main_arg1 m c) _).trans (mat_apply ..).symm)

theorem blk2_eq (t : Fin cfg0.N) (r j : Fin 1024) : (iblk m c 2 t : S1024x1024.Idx → EReal) (ix2 r j) = mat (m ((c : Thread nD τ).loc main_arg2)) r j := by
  have e : (win0_2.blk t).view.emb (ix2 r j) = (ix2 r j : S1024x1024.Idx) := by
    blk_ext [(by decide +kernel : ∀ t : Fin grid0.N, win0_2.index t = ![0, 0]) t]
  exact (congrArg (V m c main_arg2) e).trans ((congrFun (V_main_arg2 m c) _).trans (mat_apply ..).symm)

theorem blk3_eq (t : Fin cfg0.N) (r j : Fin 1024) : (iblk m c 3 t : S1024x1024.Idx → EReal) (ix2 r j) = mat (m ((c : Thread nD τ).loc main_arg3)) r j := by
  have e : (win0_3.blk t).view.emb (ix2 r j) = (ix2 r j : S1024x1024.Idx) := by
    blk_ext [(by decide +kernel : ∀ t : Fin grid0.N, win0_3.index t = ![0, 0]) t]
  exact (congrArg (V m c main_arg3) e).trans ((congrFun (V_main_arg3 m c) _).trans (mat_apply ..).symm)

theorem blk4_eq (t : Fin cfg0.N) (r j : Fin 1024) : (iblk m c 4 t : S1024x1024.Idx → EReal) (ix2 r j) = mat (m ((c : Thread nD τ).loc main_arg4)) r j := by
  have e : (win0_4.blk t).view.emb (ix2 r j) = (ix2 r j : S1024x1024.Idx) := by
    blk_ext [(by decide +kernel : ∀ t : Fin grid0.N, win0_4.index t = ![0, 0]) t]
  exact (congrArg (V m c main_arg4) e).trans ((congrFun (V_main_arg4 m c) _).trans (mat_apply ..).symm)

theorem blk5_eq (t : Fin cfg0.N) (j : Fin 1024) : (iblk m c 5 t : S1x1024.Idx → EReal) (ix2 0 j) = vec (m ((c : Thread nD τ).loc main_arg5)) j := by
  have e : (win0_5.blk t).view.emb (ix2 (0 : Fin 1) j) = (ix2 0 j : S1x1024.Idx) := by
    blk_ext [(by decide +kernel : ∀ t : Fin grid0.N, win0_5.index t = ![0, 0]) t]
  refine (congrArg (V m c main_v1) e).trans ?_
  rw [vec_apply]
  unfold V V0
  after_reads_at

theorem blk6_eq (t : Fin cfg0.N) (j : Fin 1024) : (iblk m c 6 t : S1x1024.Idx → EReal) (ix2 0 j) = vec (m ((c : Thread nD τ).loc main_arg6)) j := by
  have e : (win0_6.blk t).view.emb (ix2 (0 : Fin 1) j) = (ix2 0 j : S1x1024.Idx) := by
    blk_ext [(by decide +kernel : ∀ t : Fin grid0.N, win0_6.index t = ![0, 0]) t]
  refine (congrArg (V m c main_v2) e).trans ?_
  rw [vec_apply]
  unfold V V0
  after_reads_at

theorem blk7_eq (t : Fin cfg0.N) (j : Fin 1024) : (iblk m c 7 t : S1x1024.Idx → EReal) (ix2 0 j) = vec (m ((c : Thread nD τ).loc main_arg7)) j := by
  have e : (win0_7.blk t).view.emb (ix2 (0 : Fin 1) j) = (ix2 0 j : S1x1024.Idx) := by
    blk_ext [(by decide +kernel : ∀ t : Fin grid0.N, win0_7.index t = ![0, 0]) t]
  refine (congrArg (V m c main_v3) e).trans ?_
  rw [vec_apply]
  unfold V V0
  after_reads_at

theorem blk8_eq (t : Fin cfg0.N) (j : Fin 1024) : (iblk m c 8 t : S1x1024.Idx → EReal) (ix2 0 j) = vec (m ((c : Thread nD τ).loc main_arg8)) j := by
  have e : (win0_8.blk t).view.emb (ix2 (0 : Fin 1) j) = (ix2 0 j : S1x1024.Idx) := by
    blk_ext [(by decide +kernel : ∀ t : Fin grid0.N, win0_8.index t = ![0, 0]) t]
  refine (congrArg (V m c main_v4) e).trans ?_
  rw [vec_apply]
  unfold V V0
  after_reads_at

/-! ## The points -/

/-- Window 0's staging buffer at point `t`. -/
abbrev stg0 (t : Fin cfg0.N) : Memref sig .tc .vmem S256x1024 .f32 := win0_0.stage (cfg0.slots t 0)
/-- Window 1's staging buffer at point `t`. -/
abbrev stg1 (t : Fin cfg0.N) : Memref sig .tc .vmem S1024x1024 .f32 := win0_1.stage (cfg0.slots t 1)
/-- Window 2's staging buffer at point `t`. -/
abbrev stg2 (t : Fin cfg0.N) : Memref sig .tc .vmem S1024x1024 .f32 := win0_2.stage (cfg0.slots t 2)
/-- Window 3's staging buffer at point `t`. -/
abbrev stg3 (t : Fin cfg0.N) : Memref sig .tc .vmem S1024x1024 .f32 := win0_3.stage (cfg0.slots t 3)
/-- Window 4's staging buffer at point `t`. -/
abbrev stg4 (t : Fin cfg0.N) : Memref sig .tc .vmem S1024x1024 .f32 := win0_4.stage (cfg0.slots t 4)
/-- Window 5's staging buffer at point `t`. -/
abbrev stg5 (t : Fin cfg0.N) : Memref sig .tc .vmem S1x1024 .f32 := win0_5.stage (cfg0.slots t 5)
/-- Window 6's staging buffer at point `t`. -/
abbrev stg6 (t : Fin cfg0.N) : Memref sig .tc .vmem S1x1024 .f32 := win0_6.stage (cfg0.slots t 6)
/-- Window 7's staging buffer at point `t`. -/
abbrev stg7 (t : Fin cfg0.N) : Memref sig .tc .vmem S1x1024 .f32 := win0_7.stage (cfg0.slots t 7)
/-- Window 8's staging buffer at point `t`. -/
abbrev stg8 (t : Fin cfg0.N) : Memref sig .tc .vmem S1x1024 .f32 := win0_8.stage (cfg0.slots t 8)
/-- Window 9's staging buffer at point `t`. -/
abbrev stg9 (t : Fin cfg0.N) : Memref sig .tc .vmem S256x1024 .f32 := win0_9.stage (cfg0.slots t 9)
/-- Window 10's staging buffer at point `t`. -/
abbrev stg10 (t : Fin cfg0.N) : Memref sig .tc .vmem S256x2048 .f32 := win0_10.stage (cfg0.slots t 10)

/-- The scratch buffers. -/
abbrev scr0 : Memref sig .tc .vmem S2048x1024 .bf16 := Memref.whole cc0_scratch0
@[inherit_doc scr0] abbrev scr1 : Memref sig .tc .vmem S2048x1024 .f32 := Memref.whole cc0_scratch1
@[inherit_doc scr0] abbrev scr2 : Memref sig .tc .vmem S8x2048 .f32 := Memref.whole cc0_scratch2

/-- What is kept from point to point: the scratch buffers as the rows before `n` leave them. -/
def kept (c : Dev nD) (n : ℕ) : sProp 𝕄 :=
  iprop((∃ ks vs cr, owns (c : Thread nD τ) scr0 fullShare ks ∗ owns (c : Thread nD τ) scr1 fullShare vs ∗ owns (c : Thread nD τ) scr2 fullShare cr
    ∗ ⌜Inv (Qm m c) (Km m c) (Vm m c) n ks vs cr⌝) ∗ (∃ r, prngReg c r))

/-- The scratch buffers at anything, with the generator register at something. -/
theorem rest_eq (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d)) ∗ (∃ r, prngReg c r)) := by
  unfold Pipeline.ΦA; rw [scopedRest0_eq]; simp only [scr0, scr1, scr2, owns_whole]; try rfl

/-- The proof data: inputs at their blocks, outputs at the rows of the results, scratch as the rows before leave it. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk (Qm m c) (Km m c) (Vm m c) (Wm m c) (256 * (grid0.coords t 0).val)
    | ⟨10, _⟩ => maskBlk (Qm m c) (Km m c) (256 * (grid0.coords t 0).val)
  Φ t := kept m c (256 * t.val)
  q _ := fullShare
  owed _ := 0

theorem dats_A (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  before0_0_of m (dats m 0 c) (dats_A m c 0) (fun _ => by dsimp only [dats]) t d
theorem before1 (c : Dev nD) (t : Fin cfg0.N) (d) : (dats m 0 c).before 1 t d = iblk m c 1 t :=
  before0_1_of m (dats m 0 c) (dats_A m c 1) (fun _ => by dsimp only [dats]) t d
theorem before2 (c : Dev nD) (t : Fin cfg0.N) (d) : (dats m 0 c).before 2 t d = iblk m c 2 t :=
  before0_2_of m (dats m 0 c) (dats_A m c 2) (fun _ => by dsimp only [dats]) t d
theorem before3 (c : Dev nD) (t : Fin cfg0.N) (d) : (dats m 0 c).before 3 t d = iblk m c 3 t :=
  before0_3_of m (dats m 0 c) (dats_A m c 3) (fun _ => by dsimp only [dats]) t d
theorem before4 (c : Dev nD) (t : Fin cfg0.N) (d) : (dats m 0 c).before 4 t d = iblk m c 4 t :=
  before0_4_of m (dats m 0 c) (dats_A m c 4) (fun _ => by dsimp only [dats]) t d
theorem before5 (c : Dev nD) (t : Fin cfg0.N) (d) : (dats m 0 c).before 5 t d = iblk m c 5 t :=
  before0_5_of m (dats m 0 c) (dats_A m c 5) (fun _ => by dsimp only [dats]) t d
theorem before6 (c : Dev nD) (t : Fin cfg0.N) (d) : (dats m 0 c).before 6 t d = iblk m c 6 t :=
  before0_6_of m (dats m 0 c) (dats_A m c 6) (fun _ => by dsimp only [dats]) t d
theorem before7 (c : Dev nD) (t : Fin cfg0.N) (d) : (dats m 0 c).before 7 t d = iblk m c 7 t :=
  before0_7_of m (dats m 0 c) (dats_A m c 7) (fun _ => by dsimp only [dats]) t d
theorem before8 (c : Dev nD) (t : Fin cfg0.N) (d) : (dats m 0 c).before 8 t d = iblk m c 8 t :=
  before0_8_of m (dats m 0 c) (dats_A m c 8) (fun _ => by dsimp only [dats]) t d

theorem leaves0 (c : Dev nD) (t : Fin cfg0.N) : (dats m 0 c).leavesExact 0 t = owns (c : Thread nD τ) (stg0 t) fullShare (iblk m c 0 t) := by
  unfold Dat.leavesExact; rw [show cfg0.idle 0 (grid0.coords t) = false from rfl]; dsimp only [dats]
theorem leaves1 (c : Dev nD) (t : Fin cfg0.N) : (dats m 0 c).leavesExact 1 t = owns (c : Thread nD τ) (stg1 t) fullShare (iblk m c 1 t) := by
  unfold Dat.leavesExact; rw [show cfg0.idle 1 (grid0.coords t) = false from rfl]; dsimp only [dats]
theorem leaves2 (c : Dev nD) (t : Fin cfg0.N) : (dats m 0 c).leavesExact 2 t = owns (c : Thread nD τ) (stg2 t) fullShare (iblk m c 2 t) := by
  unfold Dat.leavesExact; rw [show cfg0.idle 2 (grid0.coords t) = false from rfl]; dsimp only [dats]
theorem leaves3 (c : Dev nD) (t : Fin cfg0.N) : (dats m 0 c).leavesExact 3 t = owns (c : Thread nD τ) (stg3 t) fullShare (iblk m c 3 t) := by
  unfold Dat.leavesExact; rw [show cfg0.idle 3 (grid0.coords t) = false from rfl]; dsimp only [dats]
theorem leaves4 (c : Dev nD) (t : Fin cfg0.N) : (dats m 0 c).leavesExact 4 t = owns (c : Thread nD τ) (stg4 t) fullShare (iblk m c 4 t) := by
  unfold Dat.leavesExact; rw [show cfg0.idle 4 (grid0.coords t) = false from rfl]; dsimp only [dats]
theorem leaves5 (c : Dev nD) (t : Fin cfg0.N) : (dats m 0 c).leavesExact 5 t = owns (c : Thread nD τ) (stg5 t) fullShare (iblk m c 5 t) := by
  unfold Dat.leavesExact; rw [show cfg0.idle 5 (grid0.coords t) = false from rfl]; dsimp only [dats]
theorem leaves6 (c : Dev nD) (t : Fin cfg0.N) : (dats m 0 c).leavesExact 6 t = owns (c : Thread nD τ) (stg6 t) fullShare (iblk m c 6 t) := by
  unfold Dat.leavesExact; rw [show cfg0.idle 6 (grid0.coords t) = false from rfl]; dsimp only [dats]
theorem leaves7 (c : Dev nD) (t : Fin cfg0.N) : (dats m 0 c).leavesExact 7 t = owns (c : Thread nD τ) (stg7 t) fullShare (iblk m c 7 t) := by
  unfold Dat.leavesExact; rw [show cfg0.idle 7 (grid0.coords t) = false from rfl]; dsimp only [dats]
theorem leaves8 (c : Dev nD) (t : Fin cfg0.N) : (dats m 0 c).leavesExact 8 t = owns (c : Thread nD τ) (stg8 t) fullShare (iblk m c 8 t) := by
  unfold Dat.leavesExact; rw [show cfg0.idle 8 (grid0.coords t) = false from rfl]; dsimp only [dats]
theorem leaves9 (c : Dev nD) (t : Fin cfg0.N) : (dats m 0 c).leavesExact 9 t
    = owns (c : Thread nD τ) (stg9 t) fullShare (outBlk (Qm m c) (Km m c) (Vm m c) (Wm m c) (256 * (grid0.coords t 0).val)) := by
  unfold Dat.leavesExact; rw [show cfg0.idle 9 (grid0.coords t) = false from (by decide +kernel : ∀ t : Fin grid0.N, cfg0.idle 9 (grid0.coords t) = false) t]; dsimp only [dats]
theorem leaves10 (c : Dev nD) (t : Fin cfg0.N) : (dats m 0 c).leavesExact 10 t
    = owns (c : Thread nD τ) (stg10 t) fullShare (maskBlk (Qm m c) (Km m c) (256 * (grid0.coords t 0).val)) := by
  unfold Dat.leavesExact; rw [show cfg0.idle 10 (grid0.coords t) = false from (by decide +kernel : ∀ t : Fin grid0.N, cfg0.idle 10 (grid0.coords t) = false) t]; dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d)))

/-- What the body gives back at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- The body at any point. -/
theorem body_sound (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6, before7, before8, leaves0, leaves1, leaves2, leaves3, leaves4, leaves5, leaves6, leaves7, leaves8, leaves9, leaves10]
  rw [show (dats m 0 c).owesAt () t.succ = (dats m 0 c).owesAt () t.castSucc from rfl]
  rw [show (dats m 0 c).Φ t.succ = kept m c (256 * (grid0.coords t 0).val + 256) from congrArg (kept m c) (by rw [coord_eq]; rfl),
    show (dats m 0 c).Φ t.castSucc = kept m c (256 * (grid0.coords t 0).val) from congrArg (kept m c) (by rw [coord_eq]; rfl)]
  unfold kept
  iintro ⟨⟨S, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (pointRun c (grid0.coords t) (case_of t) (place_of t) _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t)
    (blk0_eq m c t) (blk1_eq m c t) (blk2_eq m c t) (blk3_eq m c t) (blk4_eq m c t) (blk5_eq m c t) (blk6_eq m c t) (blk7_eq m c t) (blk8_eq m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [S]; · iexact S
  iintro ⟨H0, H1, H2, H3, H4, H5, H6, H7, H8, H9, H10, S⟩
  isplitl [S Hg]
  · isplitl [S]; · iexact S
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row_eq (t : Fin cfg0.N) : defs₀ (F := Ideal) .tc cfg0.body (cfg0.bodyArgs t (cfg0.slots t)) = bodyAt0 t := by
  unfold defs₀; rw [Defs.onTc_tc]

/-- The body's obligation at every point. -/
theorem body_ok (c : Dev nD) : BodyObligation (dats m 0 c) (defs₀ (F := Ideal)) Variants.none () Set.univ := fun t => by
  rw [bigSep_W0, bigSep_W0, row_eq]
  exact triple_restated (body_sound m c t) rfl .rfl fun _ => .rfl

/-- Before the first row nothing is asked of the scratch buffers. -/
theorem enter (c : Dev nD) : Pipeline.ΦA spec0 c ⊢ (dats m 0 c).Φ 0 := by
  rw [rest_eq, show (dats m 0 c).Φ 0 = kept m c 0 from rfl]
  unfold kept
  iintro ⟨⟨⟨%a, Ha⟩, ⟨%b, Hb⟩, ⟨%d, Hd⟩⟩, Hg⟩
  isplitl [Ha Hb Hd]
  · iexists a, b, d
    isplitl [Ha]; · iexact Ha
    isplitl [Hb]; · iexact Hb
    isplitl [Hd]; · iexact Hd
    ipureintro
    exact ⟨fun _ _ h => absurd h (Nat.not_lt_zero _), fun _ _ h => absurd h (Nat.not_lt_zero _), fun h => absurd h (Nat.lt_irrefl _)⟩
  iexact Hg

/-- After the last nothing is kept of them. -/
theorem leave (c : Dev nD) : (dats m 0 c).Φ (Fin.last cfg0.N) ⊢ Pipeline.ΦA spec0 c := by
  rw [rest_eq, show (dats m 0 c).Φ (Fin.last cfg0.N) = kept m c (256 * cfg0.N) from rfl]
  unfold kept
  iintro ⟨⟨%a, %b, %d, Ha, Hb, Hd, -⟩, Hg⟩
  isplitl [Ha Hb Hd]
  · isplitl [Ha]; · iexists a; iexact Ha
    isplitl [Hb]; · iexists b; iexact Hb
    iexists d; iexact Hd
  iexact Hg

set_option backward.isDefEq.respectTransparency.types false in
set_option maxHeartbeats 800000 in
/-- The whole program's run, the counters at zero after it. -/
theorem launch_run_quiet : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_ok m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hin := enter m) (hout := leave m) (hQ' := fun _ h => h)

theorem launch_run : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (launch_run_quiet m ρ)

/-! ## What the results hold -/

/-- The first result. -/
def res0 : Buf (Elt Ideal) ((c : Thread nD τ).loc main_v6) := fun y : S1x2048x1024.Idx => out (Qm m c) (Km m c) (Vm m c) (Wm m c) (y 1).val (y 2).val

/-- The second result. -/
def res1 : Buf (Elt Ideal) ((c : Thread nD τ).loc main_v7) := fun y : S1x2048x2048.Idx => mask (Qm m c) (Km m c) (y 1).val (y 2).val

theorem arr9_eq : (dats m 0 c).arrAt 9 cfg0.N = fun i : S2048x1024.Idx => out (Qm m c) (Km m c) (Vm m c) (Wm m c) (i 0).val (i 1).val := by
  refine (dats m 0 c).arrAt_eq_of_covers 9 _ (by decide +kernel) fun t hf y => ?_
  have e0 := (by decide +kernel : ∀ t : Fin grid0.N, win0_9.index t = ![(grid0.coords t 0).val, 0]) t
  blk_simp [e0]
  exact congrArg (fun n => out (Qm m c) (Km m c) (Vm m c) (Wm m c) (n + (y 0).val) (y 1).val) (Nat.mul_comm ..)

theorem arr10_eq : (dats m 0 c).arrAt 10 cfg0.N = fun i : S2048x2048.Idx => mask (Qm m c) (Km m c) (i 0).val (i 1).val := by
  refine (dats m 0 c).arrAt_eq_of_covers 10 _ (by decide +kernel) fun t hf y => ?_
  have e0 := (by decide +kernel : ∀ t : Fin grid0.N, win0_10.index t = ![(grid0.coords t 0).val, 0]) t
  blk_simp [e0]
  exact congrArg (fun n => mask (Qm m c) (Km m c) (n + (y 0).val) (y 1).val) (Nat.mul_comm ..)

/-- An index of a rank-3 array whose first axis has extent 1. -/
theorem exists_ix3 {a b : ℕ} (y : (⟨3, ![1, a, b]⟩ : Shape).Idx) : ∃ (i : Fin a) (j : Fin b), y = ix3 0 i j := ⟨y 1, y 2, by
  funext d
  match d with
  | ⟨0, _⟩ => exact Fin.ext (Nat.lt_one_iff.1 (y 0).isLt)
  | ⟨1, _⟩ => rfl
  | ⟨2, _⟩ => rfl⟩

/-- A reshape that puts an axis of extent 1 in front, at an index. -/
theorem front_axis {α : Type} {a b : ℕ} (x : (⟨2, ![a, b]⟩ : Shape).Idx → α) (h : (⟨2, ![a, b]⟩ : Shape).ShapeCasts ⟨3, ![1, a, b]⟩)
    (i : Fin a) (j : Fin b) : shapeCast _ x h (ix3 0 i j) = x (ix2 i j) := by
  refine shapeCast_apply _ h (ix3 0 i j) (ix2 i j) ?_
  rw [Shape.rowMajor_val_two, Shape.rowMajor_val_three]
  show i.val * b + j.val = (0 * a + i.val) * b + j.val
  rw [Nat.zero_mul, Nat.zero_add]

theorem end0 : Pipeline.afterTail₀ cfgs (dats m) 0 (V0 m) [hostOps1] c main_v6 = res0 m c := by
  unfold Pipeline.afterTail₀
  after_reads_simp
  funext y
  have e := (Pipeline.withArrays_arr spec0 launch0.win.arr_inj c (V0 m c) (fun w => (dats m 0 c).arrAt w cfg0.N) 9).trans (arr9_eq m c)
  obtain ⟨i, j, rfl⟩ := exists_ix3 y
  exact (front_axis _ shapeCasts_S2048x1024_S1x2048x1024 i j).trans (congrFun e (ix2 i j))

theorem end1 : Pipeline.afterTail₀ cfgs (dats m) 0 (V0 m) [hostOps1] c main_v7 = res1 m c := by
  unfold Pipeline.afterTail₀
  after_reads_simp
  funext y
  have e := (Pipeline.withArrays_arr spec0 launch0.win.arr_inj c (V0 m c) (fun w => (dats m 0 c).arrAt w cfg0.N) 10).trans (arr10_eq m c)
  obtain ⟨i, j, rfl⟩ := exists_ix3 y
  exact (front_axis _ shapeCasts_S2048x2048_S1x2048x2048 i j).trans (congrFun e (ix2 i j))

/-- The results of a run. -/
theorem results : θ_run defs (onTc (τ := τ) (main (F := Ideal))) ⟨m, fun _ => 0, ρ⟩ (fun r => ∀ c : Dev nD,
      r.2.mem ((c.tc : Thread nD τ).loc main_v6) = res0 m c ∧ r.2.mem ((c.tc : Thread nD τ).loc main_v7) = res1 m c) := by
  run_from launch_run m ρ
  · exact end0 m c
  · exact end1 m c

/-- The frame: every argument array ends as it began, and every counter is zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨h.1, h.2.2⟩)
    (θ_run_and (frame_of m ρ (dats m) (dats_A m) (launch_run m ρ)) (launch_run_quiet m ρ))

end Cert.KernelIdeal.Hand

end
-- ==== Proof.RefStages.lean ====
/- The reference's two results as a composition of short stages, each one group of its operations in their order. -/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe

/-- A projection of the input by a transposed weight. -/
def projV (x : FVec Ideal S1x2048x1024 .f32) (w : FVec Ideal S1024x1024 .f32) : FVec Ideal S1x2048x1024 .f32 :=
  Host.dotGeneral dot_S1x2048x1024_S1024x1024_S1x2048x1024_2_0_01_1_n_n none x
    (transpose S1024x1024 [1, 0] w transposes_S1024x1024_S1024x1024_1_0)

/-- The rows' means, spread over the columns. -/
def meanV (y : FVec Ideal S1x2048x1024 .f32) : FVec Ideal S1x2048x1024 .f32 :=
  broadcastInDim S1x2048x1024 ![0, 1, 2] bcast_S1x2048x1_S1x2048x1024_0_1_2
    (Host.divf (broadcastInDim S1x2048x1 ![0, 1] bcast_S1x2048_S1x2048x1_0_1
        (Host.reduceAdd y (constant (F := Ideal) S_ .f32 0x00000000#32) reducesTo_S1x2048x1024_S1x2048_d2 h_S_))
      (broadcastInDim S1x2048x1 ![] bcast_S_S1x2048x1 (constant (F := Ideal) S_ .f32 0x44800000#32)))

/-- The rows' standard deviations, spread over the columns. -/
def devV (y : FVec Ideal S1x2048x1024 .f32) : FVec Ideal S1x2048x1024 .f32 :=
  broadcastInDim S1x2048x1024 ![0, 1, 2] bcast_S1x2048x1_S1x2048x1024_0_1_2
    (Host.sqrt (addf (Host.divf (broadcastInDim S1x2048x1 ![0, 1] bcast_S1x2048_S1x2048x1_0_1
        (Host.reduceAdd (mulf (subf y (meanV y)) (subf y (meanV y))) (constant (F := Ideal) S_ .f32 0x00000000#32)
          reducesTo_S1x2048x1024_S1x2048_d2 h_S_))
      (broadcastInDim S1x2048x1 ![] bcast_S_S1x2048x1 (constant (F := Ideal) S_ .f32 0x44800000#32)))
      (broadcastInDim S1x2048x1 ![] bcast_S_S1x2048x1 (constant (F := Ideal) S_ .f32 0x3727C5AC#32))))

/-- The layer norm of every row. -/
def normV (y : FVec Ideal S1x2048x1024 .f32) (g b : FVec Ideal S1024 .f32) : FVec Ideal S1x2048x1024 .f32 :=
  addf (mulf (Host.divf (subf y (meanV y)) (devV y))
      (broadcastInDim S1x2048x1024 ![0, 1, 2] bcast_S1x1x1024_S1x2048x1024_0_1_2
        (broadcastInDim S1x1x1024 ![2] bcast_S1024_S1x1x1024_2 g)))
    (broadcastInDim S1x2048x1024 ![0, 1, 2] bcast_S1x1x1024_S1x2048x1024_0_1_2
      (broadcastInDim S1x1x1024 ![2] bcast_S1024_S1x1x1024_2 b))

/-- The columns cut into heads, the heads first. -/
def headsV (y : FVec Ideal S1x2048x1024 .f32) : FVec Ideal S1x16x2048x64 .f32 :=
  transpose S1x16x2048x64 [0, 2, 1, 3] (shapeCast _ y shapeCasts_S1x2048x1024_S1x2048x16x64)
    transposes_S1x2048x16x64_S1x16x2048x64_0_2_1_3

/-- The causal triangle. -/
def trilV : IVec S2048x2048 1 :=
  select (cmpi .sge (addi (iotaInDim S2048x2048 32 0) (broadcastInDim S2048x2048 ![] bcast_S_S2048x2048 (constantI S_ 32 0#32))) (iotaInDim S2048x2048 32 1))
    (broadcastInDim S2048x2048 ![] bcast_S_S2048x2048 (constantI S_ 1 1#1)) (broadcastInDim S2048x2048 ![] bcast_S_S2048x2048 (constantI S_ 1 0#1))

/-- The scaled products of queries and keys, minus infinity above the diagonal. -/
def logitV (q k : FVec Ideal S1x16x2048x64 .f32) : FVec Ideal S1x16x2048x2048 .f32 :=
  select (broadcastInDim S1x16x2048x2048 ![0, 1, 2, 3] bcast_S1x1x2048x2048_S1x16x2048x2048_0_1_2_3
      (broadcastInDim S1x1x2048x2048 ![2, 3] bcast_S2048x2048_S1x1x2048x2048_2_3 trilV))
    (Host.divf (Host.dotGeneral dot_S1x16x2048x64_S1x16x2048x64_S1x16x2048x2048_3_3_2_2_01_01 none q k)
      (broadcastInDim S1x16x2048x2048 ![] bcast_S_S1x16x2048x2048 (constant (F := Ideal) S_ .f32 0x41000000#32)))
    (broadcastInDim S1x16x2048x2048 ![] bcast_S_S1x16x2048x2048 (id (constant (F := Ideal) S_ .f32 0xFF800000#32)))

/-- Head 0's logits, negative ones made zero, and column 0 made zero. -/
def reluV (l : FVec Ideal S1x16x2048x2048 .f32) : FVec Ideal S1x2048x2048 .f32 :=
  Host.scatter scatter_S1x2048x2048_S1_S1x2048_01_2_2_0 (fun _ b => b)
    (maximumf (shapeCast _ (extractStridedSlice S1x1x2048x2048 ![0, 0, 0, 0] l slices_S1x16x2048x2048_S1x1x2048x2048_0_0_0_0)
        shapeCasts_S1x1x2048x2048_S1x2048x2048)
      (broadcastInDim S1x2048x2048 ![] bcast_S_S1x2048x2048 (constant (F := Ideal) S_ .f32 0x00000000#32)))
    (broadcastInDim S1 ![] bcast_S_S1 (constantI S_ 32 0#32)) (broadcastInDim S1x2048 ![] bcast_S_S1x2048 (constant (F := Ideal) S_ .f32 0x00000000#32))

/-- The diagonal taken out. -/
def offDiagV (s : FVec Ideal S1x2048x2048 .f32) : FVec Ideal S1x2048x2048 .f32 :=
  mulf (broadcastInDim S1x2048x2048 ![1, 2] bcast_S2048x2048_S1x2048x2048_1_2
      (subf (broadcastInDim S2048x2048 ![] bcast_S_S2048x2048 (constant (F := Ideal) S_ .f32 0x3F800000#32))
        (uitofp .f32 (cmpi .eq (addi (iotaInDim S2048x2048 32 0) (broadcastInDim S2048x2048 ![] bcast_S_S2048x2048 (constantI S_ 32 0#32)))
          (iotaInDim S2048x2048 32 1))))) s

/-- The rows moved down by one, the last row first. -/
def rollV (s : FVec Ideal S1x2048x2048 .f32) : FVec Ideal S1x2048x2048 .f32 :=
  concatenate S1x2048x2048 1 [⟨S1x1x2048, (extractStridedSlice S1x1x2048 ![0, 2047, 0] s slices_S1x2048x2048_S1x1x2048_0_2047_0)⟩,
    ⟨S1x2047x2048, (extractStridedSlice S1x2047x2048 ![0, 0, 0] s slices_S1x2048x2048_S1x2047x2048_0_0_0)⟩]
    concatenates_S1x1x2048_S1x2047x2048_S1x2048x2048_d1

/-- Row 0 made zero. -/
def topV (s : FVec Ideal S1x2048x2048 .f32) : FVec Ideal S1x2048x2048 .f32 :=
  Host.scatter scatter_S1x2048x2048_S1_S1x2048_01_1_1_0 (fun _ b => b) s
    (broadcastInDim S1 ![] bcast_S_S1 (constantI S_ 32 0#32)) (broadcastInDim S1x2048 ![] bcast_S_S1x2048 (constant (F := Ideal) S_ .f32 0x00000000#32))

/-- The running sum down the rows. -/
def cumV (s : FVec Ideal S1x2048x2048 .f32) : FVec Ideal S1x2048x2048 .f32 :=
  Host.reduceWindowAdd ![1, 2048, 1] ![1, 1, 1] ![0, 2047, 0] ![0, 0, 0] s (broadcastInDim S_ ![] bcast_S_S_ (constant (F := Ideal) S_ .f32 0x00000000#32))
    reduceWindows_S1x2048x2048_S1x2048x2048_w1s1p0_0_w2048s1p2047_0_w1s1p0_0 h_S_

/-- The accumulated selection, from the logits. -/
def maskV (l : FVec Ideal S1x16x2048x2048 .f32) : FVec Ideal S1x2048x2048 .f32 := cumV (topV (rollV (offDiagV (reluV l))))

/-- The logits less the accumulated selection. -/
def shiftV (l : FVec Ideal S1x16x2048x2048 .f32) (f : FVec Ideal S1x2048x2048 .f32) : FVec Ideal S1x16x2048x2048 .f32 :=
  subf l (broadcastInDim S1x16x2048x2048 ![0, 1, 2, 3] bcast_S1x1x2048x2048_S1x16x2048x2048_0_1_2_3
    (broadcastInDim S1x1x2048x2048 ![0, 2, 3] bcast_S1x2048x2048_S1x1x2048x2048_0_2_3 f))

/-- The rows' greatest entries. -/
def topmostV (a : FVec Ideal S1x16x2048x2048 .f32) : FVec Ideal S1x16x2048 .f32 :=
  maximumf (broadcastInDim S1x16x2048 ![] bcast_S_S1x16x2048 (constant (F := Ideal) S_ .f32 0xFF800000#32))
    (Host.reduce FloatOps.maximumf a (constant (F := Ideal) S_ .f32 0xFF800000#32) reducesTo_S1x16x2048x2048_S1x16x2048_d3 h_S_)

/-- The exponentials of the entries less the rows' greatest. -/
def expV (a : FVec Ideal S1x16x2048x2048 .f32) : FVec Ideal S1x16x2048x2048 .f32 :=
  Host.exp (subf a (broadcastInDim S1x16x2048x2048 ![0, 1, 2, 3] bcast_S1x16x2048x1_S1x16x2048x2048_0_1_2_3
    (broadcastInDim S1x16x2048x1 ![0, 1, 2] bcast_S1x16x2048_S1x16x2048x1_0_1_2 (topmostV a))))

/-- The rows divided by their sums. -/
def weightsV (e : FVec Ideal S1x16x2048x2048 .f32) : FVec Ideal S1x16x2048x2048 .f32 :=
  Host.divf e (broadcastInDim S1x16x2048x2048 ![0, 1, 2, 3] bcast_S1x16x2048x1_S1x16x2048x2048_0_1_2_3
    (broadcastInDim S1x16x2048x1 ![0, 1, 2] bcast_S1x16x2048_S1x16x2048x1_0_1_2
      (Host.reduceAdd e (constant (F := Ideal) S_ .f32 0x00000000#32) reducesTo_S1x16x2048x2048_S1x16x2048_d3 h_S_)))

/-- The weighted sums of the values, the heads side by side again. -/
def attnV (p : FVec Ideal S1x16x2048x2048 .f32) (v : FVec Ideal S1x16x2048x64 .f32) : FVec Ideal S1x2048x1024 .f32 :=
  shapeCast _ (transpose S1x2048x16x64 [0, 2, 1, 3] (broadcastInDim S1x16x2048x64 ![1, 2, 3] bcast_S16x2048x64_S1x16x2048x64_1_2_3
    (Host.dotGeneral dot_S16x2048x2048_S16x2048x64_S16x2048x64_2_1_1_2_0_0 none
      (shapeCast _ p shapeCasts_S1x16x2048x2048_S16x2048x2048) (shapeCast _ v shapeCasts_S1x16x2048x64_S16x2048x64)))
    transposes_S1x16x2048x64_S1x2048x16x64_0_2_1_3) shapeCasts_S1x2048x16x64_S1x2048x1024

section

variable (m : (ℓ : Loc nD τ sig) → Buf (Elt Ideal) ℓ) (c : Dev nD)

/-- The logits of the reference on its arguments. -/
def refLogits : FVec Ideal S1x16x2048x2048 .f32 :=
  logitV (headsV (normV (projV (m ((c.tc : Thread nD τ).loc main_arg0)) (m ((c.tc : Thread nD τ).loc main_arg1)))
      (m ((c.tc : Thread nD τ).loc main_arg5)) (m ((c.tc : Thread nD τ).loc main_arg6))))
    (headsV (normV (projV (m ((c.tc : Thread nD τ).loc main_arg0)) (m ((c.tc : Thread nD τ).loc main_arg2)))
      (m ((c.tc : Thread nD τ).loc main_arg7)) (m ((c.tc : Thread nD τ).loc main_arg8))))

/-- The second result is the accumulated selection of the logits. -/
theorem mask_eq : Value.res_main_v87 (F := Ideal) m c = maskV (refLogits m c) := by
  unfold Value.res_main_v87 maskV cumV topV rollV offDiagV reluV refLogits logitV trilV headsV normV devV meanV projV
  rfl

/-- The first result is the attention's output, projected. -/
theorem out_eq : Value.res_main_v109 (F := Ideal) m c
    = projV (attnV (weightsV (expV (shiftV (refLogits m c) (maskV (refLogits m c)))))
        (headsV (projV (m ((c.tc : Thread nD τ).loc main_arg0)) (m ((c.tc : Thread nD τ).loc main_arg3)))))
      (m ((c.tc : Thread nD τ).loc main_arg4)) := by
  unfold Value.res_main_v109 attnV weightsV expV topmostV shiftV maskV cumV topV rollV offDiagV reluV refLogits logitV trilV headsV normV devV meanV projV
  rfl

end

end Cert.ReferenceIdeal.Hand

end
-- ==== Proof.RefValue.lean ====
/- The reference's stages at an entry, as the functions of `Cert.Attn`. -/
module

public import proofs.«01_k».proof.Proof.RefStages
public import proofs.«01_k».proof.Proof.Math
public import Idealize.ShloMosaic.Lib.Routing.OpsOne
public import Idealize.ShloMosaic.Lib.WordCmp

@[expose] public section

set_option maxRecDepth 16384

noncomputable section

namespace Cert.ReferenceIdeal.Hand

open Cert.ReferenceIdeal Cert.ReferenceIdeal.Gen Cert.Attn
open Idealize.ShloMosaic Idealize.ShloMosaic.TcCoe
open Finset (range)

/-! ## The stages before the logits -/

theorem projV_eq {X W : ℕ → ℕ → EReal} (x : FVec Ideal S1x2048x1024 .f32) (w : FVec Ideal S1024x1024 .f32)
    (hx : ∀ (i : Fin 2048) (c : Fin 1024), x (ix3 0 i c) = X i c) (hw : ∀ i c : Fin 1024, w (ix2 i c) = W i c) (i : Fin 2048) (c : Fin 1024) :
    projV x w (ix3 0 i c) = proj X W i c := by
  pointwise [projV]
  exact Finset.sum_congr rfl fun d _ => by rw [hx, hw]

theorem normV_eq {Y : ℕ → ℕ → EReal} {G B : ℕ → EReal} (y : FVec Ideal S1x2048x1024 .f32) (g b : FVec Ideal S1024 .f32)
    (hy : ∀ (i : Fin 2048) (c : Fin 1024), y (ix3 0 i c) = Y i c) (hg : ∀ c : Fin 1024, g (ix1 c) = G c) (hb : ∀ c : Fin 1024, b (ix1 c) = B c)
    (i : Fin 2048) (c : Fin 1024) : normV y g b (ix3 0 i c) = lnorm (Y i) G B c := by
  pointwise [normV, devV, meanV]
  simp only [hy, hg, hb]
  rfl

theorem headsV_eq {Y : ℕ → ℕ → EReal} (y : FVec Ideal S1x2048x1024 .f32) (hy : ∀ (i : Fin 2048) (c : Fin 1024), y (ix3 0 i c) = Y i c)
    (h : Fin 16) (i : Fin 2048) (d : Fin 64) : headsV y (ix4 0 h i d) = Y i (64 * h + d) := by
  pointwise [headsV]
  rw [hy]
  exact congrArg (Y i) (by show h.val * 64 + d.val = _; omega)

/-- A select by a comparison is a choice by the compared proposition. -/
theorem select_ofBool {α : Type} (p : Prop) [Decidable p] (a b : α) : Scalar.select (BitVec.ofBool (decide p)) a b = if p then a else b := by
  unfold Scalar.select
  by_cases h : p
  · rw [if_pos h, if_pos (by simp [h])]
  · rw [if_neg h, if_neg (by simp [h])]

theorem logitV_eq {Q K : ℕ → ℕ → EReal} (q k : FVec Ideal S1x16x2048x64 .f32)
    (hq : ∀ (h : Fin 16) (i : Fin 2048) (d : Fin 64), q (ix4 0 h i d) = Q i (64 * h + d))
    (hk : ∀ (h : Fin 16) (i : Fin 2048) (d : Fin 64), k (ix4 0 h i d) = K i (64 * h + d)) (h : Fin 16) (i j : Fin 2048) :
    logitV q k (ix4 0 h i j) = if j.val ≤ i.val then logit Q K (64 * h) i j else ⊥ := by
  pointwise [logitV, trilV]
  have e : IntOp.addi (BitVec.ofNat 32 i.val) 0#32 = BitVec.ofNat 32 i.val := by simp [IntOp.addi]
  rw [e, WordCmp.cmpi_sge_ofNat (by omega) (by omega), select_ofBool]
  simp only [hq, hk, div_8]
  split
  · rfl
  · exact ofBits_neg_inf

/-! ## The selection and its running sum -/

/-- The update that makes column 0 zero writes its entry `w` at row `w`, column 0. -/
theorem lands_col0 (idx : IVec S1 32) (hidx : ∀ q, (idx q).toInt = 0) (a : Fin 1) (w : Fin 2048) (i j : Fin 2048) :
    scatter_S1x2048x2048_S1_S1x2048_01_2_2_0.resultIdx? (ix2 a w) idx = some (ix3 0 i j) ↔ w = i ∧ j.val = 0 := by
  have w0 : scatter_S1x2048x2048_S1_S1x2048_01_2_2_0.window (ix2 a w) 0 = a.val := by
    unfold ScatterDims.window
    rw [dif_pos (by decide)]
    rfl
  have wk : scatter_S1x2048x2048_S1_S1x2048_01_2_2_0.window (ix2 a w) 1 = w.val := by
    unfold ScatterDims.window
    rw [dif_pos (by decide)]
    rfl
  have wi : scatter_S1x2048x2048_S1_S1x2048_01_2_2_0.window (ix2 a w) 2 = 0 := by
    unfold ScatterDims.window
    rw [dif_neg (by decide)]
  have s0 : ∀ b, scatter_S1x2048x2048_S1_S1x2048_01_2_2_0.start (ix2 a w) idx b = 0 := by
    intro b
    unfold ScatterDims.start
    split
    · exact hidx _
    · rfl
  rw [Routing.resultIdx?_eq_some]
  simp only [s0, zero_add]
  constructor
  · intro h
    have hk := h 1
    have hi := h 2
    rw [wk] at hk
    rw [wi] at hi
    have hk' : ((w.val : ℕ) : Int) = (i.val : Int) := hk
    have hi' : ((0 : ℕ) : Int) = (j.val : Int) := hi
    exact ⟨Fin.ext (by omega), by omega⟩
  · rintro ⟨rfl, h⟩ b
    match b with
    | ⟨0, _⟩ => exact (congrArg Int.ofNat w0).trans (by rw [Subsingleton.elim a 0]; rfl)
    | ⟨1, _⟩ => exact congrArg Int.ofNat wk
    | ⟨2, _⟩ => exact (congrArg Int.ofNat wi).trans (congrArg Int.ofNat h.symm)

/-- The update that makes row 0 zero writes its entry `w` at row 0, column `w`. -/
theorem lands_row0 (idx : IVec S1 32) (hidx : ∀ q, (idx q).toInt = 0) (a : Fin 1) (w : Fin 2048) (i j : Fin 2048) :
    scatter_S1x2048x2048_S1_S1x2048_01_1_1_0.resultIdx? (ix2 a w) idx = some (ix3 0 i j) ↔ w = j ∧ i.val = 0 := by
  have w0 : scatter_S1x2048x2048_S1_S1x2048_01_1_1_0.window (ix2 a w) 0 = a.val := by
    unfold ScatterDims.window
    rw [dif_pos (by decide)]
    rfl
  have wk : scatter_S1x2048x2048_S1_S1x2048_01_1_1_0.window (ix2 a w) 2 = w.val := by
    unfold ScatterDims.window
    rw [dif_pos (by decide)]
    rfl
  have wi : scatter_S1x2048x2048_S1_S1x2048_01_1_1_0.window (ix2 a w) 1 = 0 := by
    unfold ScatterDims.window
    rw [dif_neg (by decide)]
  have s0 : ∀ b, scatter_S1x2048x2048_S1_S1x2048_01_1_1_0.start (ix2 a w) idx b = 0 := by
    intro b
    unfold ScatterDims.start
    split
    · exact hidx _
    · rfl
  rw [Routing.resultIdx?_eq_some]
  simp only [s0, zero_add]
  constructor
  · intro h
    have hk := h 2
    have hi := h 1
    rw [wk] at hk
    rw [wi] at hi
    have hk' : ((w.val : ℕ) : Int) = (j.val : Int) := hk
    have hi' : ((0 : ℕ) : Int) = (i.val : Int) := hi
    exact ⟨Fin.ext (by omega), by omega⟩
  · rintro ⟨rfl, h⟩ b
    match b with
    | ⟨0, _⟩ => exact (congrArg Int.ofNat w0).trans (by rw [Subsingleton.elim a 0]; rfl)
    | ⟨2, _⟩ => exact congrArg Int.ofNat wk
    | ⟨1, _⟩ => exact (congrArg Int.ofNat wi).trans (congrArg Int.ofNat h.symm)

theorem reluV_eq (l : FVec Ideal S1x16x2048x2048 .f32) (i j : Fin 2048) :
    reluV l (ix3 0 i j) = if j.val = 0 then 0 else max (l (ix4 0 0 i j)) 0 := by
  unfold reluV
  by_cases h : j.val = 0
  · rw [if_pos h]
    refine Routing.scatter_set_hit _ _ _ _ _ _ (fun k hk => ?_) (ix2 0 i) ((lands_col0 _ (fun _ => rfl) 0 i i j).2 ⟨rfl, h⟩)
    show Ideal.ofBits FTy.f32 0#32 = 0
    simp
  · rw [if_neg h, Routing.scatter_set_miss]
    · pointwise []
    · intro k hk
      rw [eq_ix2 k] at hk
      exact h ((lands_col0 _ (fun _ => rfl) _ _ i j).1 hk).2

theorem topV_eq (s : FVec Ideal S1x2048x2048 .f32) (i j : Fin 2048) : topV s (ix3 0 i j) = if i.val = 0 then 0 else s (ix3 0 i j) := by
  unfold topV
  by_cases h : i.val = 0
  · rw [if_pos h]
    refine Routing.scatter_set_hit _ _ _ _ _ _ (fun k hk => ?_) (ix2 0 j) ((lands_row0 _ (fun _ => rfl) 0 j i j).2 ⟨rfl, h⟩)
    show Ideal.ofBits FTy.f32 0#32 = 0
    simp
  · rw [if_neg h, Routing.scatter_set_miss]
    intro k hk
    rw [eq_ix2 k] at hk
    exact h ((lands_row0 _ (fun _ => rfl) _ _ i j).1 hk).2

theorem offDiagV_eq (s : FVec Ideal S1x2048x2048 .f32) (i j : Fin 2048) :
    offDiagV s (ix3 0 i j) = if i.val = j.val then 0 else s (ix3 0 i j) := by
  pointwise [offDiagV]
  have e : IntOp.addi (BitVec.ofNat 32 i.val) 0#32 = BitVec.ofNat 32 i.val := by simp [IntOp.addi]
  rw [e, WordCmp.cmpi_eq_ofNat (by omega) (by omega)]
  by_cases h : i.val = j.val
  · rw [if_pos h]
    show ((1 : EReal) - (((BitVec.ofBool (decide (i.val = j.val))).toNat : ℝ) : EReal)) * _ = 0
    rw [decide_eq_true h, show ((BitVec.ofBool true).toNat : ℝ) = 1 from Nat.cast_one, ← EReal.coe_one, ← EReal.coe_sub, sub_self, EReal.coe_zero, zero_mul]
  · rw [if_neg h]
    show ((1 : EReal) - (((BitVec.ofBool (decide (i.val = j.val))).toNat : ℝ) : EReal)) * _ = _
    rw [decide_eq_false h, show ((BitVec.ofBool false).toNat : ℝ) = 0 from by norm_num, ← EReal.coe_one, ← EReal.coe_sub, sub_zero, EReal.coe_one, one_mul]

theorem rollV_eq (s : FVec Ideal S1x2048x2048 .f32) (i j : Fin 2048) (h : ¬ i.val = 0) :
    rollV s (ix3 0 i j) = s (ix3 0 ⟨i.val - 1, by omega⟩ j) := by
  pointwise [rollV]
  rw [dif_neg (by omega)]

/-- The positions of the window are the 2048 rows. -/
def windowEquiv : (⟨3, ![1, 2048, 1]⟩ : Shape).Idx ≃ Fin 2048 where
  toFun p := p 1
  invFun k := ix3 0 k 0
  left_inv p := by
    funext a
    match a with
    | ⟨0, _⟩ => exact Subsingleton.elim (α := Fin 1) _ _
    | ⟨1, _⟩ => rfl
    | ⟨2, _⟩ => exact Subsingleton.elim (α := Fin 1) _ _
  right_inv k := rfl

theorem foldl_add_eq {ι : Type} (f : ι → EReal) : ∀ (l : List ι) (v : EReal), l.foldl (fun r n => r + f n) v = v + (l.map f).sum
  | [], v => by simp
  | a :: l, v => by rw [List.foldl_cons, foldl_add_eq f l, List.map_cons, List.sum_cons, add_assoc]

/-- A windowed sum at an index, as a sum over the positions of the window. -/
theorem reduceWindowAdd_sum {s t u : Shape} (window strides lo hi : Fin s.rank → Nat) (x : FVec Ideal s .f32) (init : FVec Ideal u .f32)
    (h : s.ReduceWindows window strides lo hi t) (hu : 0 < u.numel) (hv : ∀ i, init i = 0) (j : t.Idx) :
    Host.reduceWindowAdd window strides lo hi x init h hu j = ∑ p : (⟨s.rank, window⟩ : Shape).Idx,
      if hin : ∀ a, lo a ≤ (j (a.cast h.1.symm)).val * strides a + (p a).val ∧ (j (a.cast h.1.symm)).val * strides a + (p a).val - lo a < s.size a
      then x (fun a => ⟨(j (a.cast h.1.symm)).val * strides a + (p a).val - lo a, (hin a).2⟩) else 0 := by
  have e : ∀ f : (⟨s.rank, window⟩ : Shape).Idx → EReal, ∑ p, f p = ((List.finRange _).map fun n => f ((Shape.rowMajor ⟨s.rank, window⟩).symm n)).sum :=
    fun f => by rw [← Fin.sum_univ_def]; exact (Equiv.sum_comp (Shape.rowMajor ⟨s.rank, window⟩).symm f).symm
  rw [e, ← zero_add (List.sum _), ← foldl_add_eq]
  show Host.reduceWindow (fun x y : EReal => x + y) window strides lo hi x (fun i => init i) h hu j = _
  unfold Host.reduceWindow
  simp only [hv]

theorem cumV_eq {S : ℕ → ℕ → EReal} (s : FVec Ideal S1x2048x2048 .f32) (hs : ∀ i j : Fin 2048, s (ix3 0 i j) = S i j) (i j : Fin 2048) :
    cumV s (ix3 0 i j) = ∑ k ∈ range (i + 1), S k j := by
  have hv : ∀ u, (broadcastInDim S_ ![] bcast_S_S_ (constant (F := Ideal) S_ .f32 0x00000000#32)) u = (0 : EReal) := fun u => by
    show Ideal.ofBits FTy.f32 0#32 = 0
    simp
  unfold cumV
  rw [reduceWindowAdd_sum _ _ _ _ _ _ _ _ hv, ← Equiv.sum_comp windowEquiv.symm]
  have step : ∀ n : Fin 2048, (if hin : ∀ a : Fin 3, (![0, 2047, 0] : Fin 3 → ℕ) a ≤ (ix3 (0 : Fin 1) i j a).val * (![1, 1, 1] : Fin 3 → ℕ) a + (windowEquiv.symm n a).val
        ∧ (ix3 (0 : Fin 1) i j a).val * (![1, 1, 1] : Fin 3 → ℕ) a + (windowEquiv.symm n a).val - (![0, 2047, 0] : Fin 3 → ℕ) a < S1x2048x2048.size a
      then s (fun a => ⟨(ix3 (0 : Fin 1) i j a).val * (![1, 1, 1] : Fin 3 → ℕ) a + (windowEquiv.symm n a).val - (![0, 2047, 0] : Fin 3 → ℕ) a, (hin a).2⟩) else 0)
      = if 2047 ≤ i.val + n.val then S (i.val + n.val - 2047) j else 0 := by
    intro n
    by_cases hn : 2047 ≤ i.val + n.val
    · rw [if_pos hn, dif_pos]
      · rw [← hs ⟨i.val + n.val - 2047, by omega⟩ j]
        refine congrArg s (funext fun a => Fin.ext ?_)
        match a with
        | ⟨0, _⟩ => rfl
        | ⟨1, _⟩ => show i.val * 1 + n.val - 2047 = i.val + n.val - 2047; omega
        | ⟨2, _⟩ => show j.val * 1 + 0 - 0 = j.val; omega
      · intro a
        match a with
        | ⟨0, _⟩ => exact ⟨Nat.zero_le _, Nat.zero_lt_one⟩
        | ⟨1, _⟩ => show 2047 ≤ i.val * 1 + n.val ∧ i.val * 1 + n.val - 2047 < 2048; omega
        | ⟨2, _⟩ => show 0 ≤ j.val * 1 + 0 ∧ j.val * 1 + 0 - 0 < 2048; omega
    · rw [if_neg hn, dif_neg]
      intro hin
      have h1 : 2047 ≤ i.val * 1 + n.val := (hin 1).1
      omega
  refine (Finset.sum_congr rfl fun n _ => step n).trans ?_
  rw [Fin.sum_univ_eq_sum_range (fun n => if 2047 ≤ i.val + n then S (i.val + n - 2047) j else 0) 2048]
  rw [show range 2048 = range ((2047 - i.val) + (i.val + 1)) from congrArg range (by omega), Finset.sum_range_add, Finset.sum_eq_zero, zero_add]
  · refine Finset.sum_congr rfl fun k _ => ?_
    rw [if_pos (by omega)]
    exact congrArg (fun n => S n j) (by omega)
  · intro k hk
    rw [Finset.mem_range] at hk
    exact if_neg (by omega)

/-- The accumulated selection of logits that are minus infinity above the diagonal. -/
theorem maskV_eq {Q K : ℕ → ℕ → EReal} (l : FVec Ideal S1x16x2048x2048 .f32)
    (hl : ∀ (h : Fin 16) (i j : Fin 2048), l (ix4 0 h i j) = if j.val ≤ i.val then logit Q K (64 * h) i j else ⊥) (i j : Fin 2048) :
    maskV l (ix3 0 i j) = mask Q K i j := by
  have e : ∀ i j : Fin 2048, offDiagV (reluV l) (ix3 0 i j) = sel Q K i j := by
    intro i j
    rw [offDiagV_eq, reluV_eq, hl]
    unfold sel
    by_cases h : 1 ≤ j.val ∧ j.val < i.val
    · rw [if_neg (by omega), if_neg (by omega), if_pos (by omega), if_pos h]; rfl
    · rw [if_neg h]
      by_cases h1 : i.val = j.val
      · rw [if_pos h1]
      by_cases h2 : j.val = 0
      · rw [if_neg h1, if_pos h2]
      · rw [if_neg h1, if_neg h2, if_neg (by omega)]; exact max_eq_right bot_le
  unfold maskV
  rw [cumV_eq (S := fun i j => if i = 0 then 0 else sel Q K (i - 1) j)]
  · rw [Finset.sum_range_succ', if_pos rfl, add_zero]
    exact Finset.sum_congr rfl fun k _ => by rw [if_neg (by omega)]; rfl
  · intro i j
    rw [topV_eq]
    by_cases h : i.val = 0
    · rw [if_pos h, if_pos h]
    · rw [if_neg h, if_neg h, rollV_eq _ _ _ h, e]

/-! ## The softmax -/

theorem foldl_max_ne_top {ι : Type} (f : ι → EReal) (hf : ∀ n, f n ≠ ⊤) : ∀ (l : List ι) (v : EReal), v ≠ ⊤ → l.foldl (fun r n => max r (f n)) v ≠ ⊤
  | [], _, h => h
  | a :: l, v, h => foldl_max_ne_top f hf l _ fun e => by
      have e : max v (f a) = ⊤ := e
      rcases max_choice v (f a) with h' | h' <;> rw [h'] at e
      · exact h e
      · exact hf a e

theorem le_foldl_max {ι : Type} (f : ι → EReal) : ∀ (l : List ι) (v : EReal), v ≤ l.foldl (fun r n => max r (f n)) v ∧
    ∀ n ∈ l, f n ≤ l.foldl (fun r n => max r (f n)) v
  | [], v => ⟨le_rfl, fun _ h => absurd h (List.not_mem_nil)⟩
  | a :: l, v => by
      obtain ⟨h1, h2⟩ := le_foldl_max f l (max v (f a))
      refine ⟨(le_max_left _ _).trans h1, fun n hn => ?_⟩
      rcases List.mem_cons.1 hn with rfl | hn
      · exact (le_max_right _ _).trans h1
      · exact h2 n hn

/-- A greatest entry is real when no entry is plus infinity and one of the row's is not minus infinity. -/
theorem reduceMax_real {s t u : Shape} {axes : List (Fin s.rank)} (x : FVec Ideal s .f32) (init : FVec Ideal u .f32) (h : s.ReducesTo axes t)
    (hu : 0 < u.numel) (j : t.Idx) (hx : ∀ i, x i ≠ ⊤) (hi : ∀ i, init i = ⊥) (i : s.Idx) (hd : h.drop i = j) (h0 : x i ≠ ⊥) :
    IsReal (Host.reduce (FloatOps.maximumf (F := Ideal) (φ := .f32)) x init h hu j) := by
  rw [Host.reduce_eq_foldl, isReal_iff, hi]
  refine ⟨fun e => h0 ?_, foldl_max_ne_top x hx _ _ bot_ne_top⟩
  refine le_bot_iff.1 (e ▸ (le_foldl_max x _ ⊥).2 i ?_)
  rw [List.mem_filter]
  exact ⟨List.mem_map.2 ⟨s.rowMajor i, List.mem_finRange _, Equiv.symm_apply_apply _ _⟩, by simp [hd]⟩

theorem topmostV_real (a : FVec Ideal S1x16x2048x2048 .f32) (ha : ∀ i, a i ≠ ⊤) (h : Fin 16) (i j : Fin 2048) (h0 : a (ix4 0 h i j) ≠ ⊥) :
    IsReal (topmostV a (ix3 0 h i)) := by
  have e : ∀ r : FVec Ideal S1x16x2048 .f32, maximumf (broadcastInDim S1x16x2048 ![] bcast_S_S1x16x2048 (constant (F := Ideal) S_ .f32 0xFF800000#32)) r (ix3 0 h i)
      = r (ix3 0 h i) := fun r => by
    show max (Ideal.ofBits FTy.f32 0xFF800000#32) _ = _
    rw [ofBits_neg_inf, max_eq_right bot_le]
  unfold topmostV
  rw [e]
  refine reduceMax_real a _ _ _ _ ha (fun _ => ofBits_neg_inf) (ix4 0 h i j) ?_ h0
  funext b
  match b with
  | ⟨0, _⟩ => rfl
  | ⟨1, _⟩ => rfl
  | ⟨2, _⟩ => rfl

theorem expV_eq (a : FVec Ideal S1x16x2048x2048 .f32) (h : Fin 16) (i j : Fin 2048) :
    expV a (ix4 0 h i j) = Ideal.exp (a (ix4 0 h i j) - topmostV a (ix3 0 h i)) := by
  generalize hT : topmostV a = T
  unfold expV
  rw [hT]
  pointwise []

theorem weightsV_eq (e : FVec Ideal S1x16x2048x2048 .f32) (h : Fin 16) (i j : Fin 2048) :
    weightsV e (ix4 0 h i j) = Ideal.div (e (ix4 0 h i j)) (∑ k : Fin 2048, e (ix4 0 h i k)) := by
  pointwise [weightsV]

theorem shiftV_eq (l : FVec Ideal S1x16x2048x2048 .f32) (f : FVec Ideal S1x2048x2048 .f32) (h : Fin 16) (i j : Fin 2048) :
    shiftV l f (ix4 0 h i j) = l (ix4 0 h i j) - f (ix3 0 i j) := by
  pointwise [shiftV]

theorem attnV_eq (p : FVec Ideal S1x16x2048x2048 .f32) (v : FVec Ideal S1x16x2048x64 .f32) (i : Fin 2048) (c : Fin 1024) :
    attnV p v (ix3 0 i c) = ∑ k : Fin 2048, p (ix4 0 ⟨c.val / 64, by omega⟩ i k) * v (ix4 0 ⟨c.val / 64, by omega⟩ k ⟨c.val % 64, by omega⟩) := by
  pointwise [attnV]

/-- The softmax of the masked logits against the values is the attention's output. -/
theorem softmaxV_eq {Q K V : ℕ → ℕ → EReal} (l : FVec Ideal S1x16x2048x2048 .f32) (v : FVec Ideal S1x16x2048x64 .f32)
    (hl : ∀ (h : Fin 16) (i j : Fin 2048), l (ix4 0 h i j) = if j.val ≤ i.val then logit Q K (64 * h) i j else ⊥)
    (hv : ∀ (h : Fin 16) (i : Fin 2048) (d : Fin 64), v (ix4 0 h i d) = V i (64 * h + d))
    (hr : ∀ (h : Fin 16) (i j : Fin 2048), IsReal (logit Q K (64 * h) i j)) (i : Fin 2048) (c : Fin 1024) :
    attnV (weightsV (expV (shiftV l (maskV l)))) v (ix3 0 i c) = attn Q K V i c := by
  have hm : ∀ i j : Fin 2048, IsReal (mask Q K i j) := fun i j => mask_real fun k hk => hr 0 ⟨k, by omega⟩ j
  have hA : ∀ (h : Fin 16) (i j : Fin 2048), shiftV l (maskV l) (ix4 0 h i j) = logit Q K (64 * h) i j + base Q K i j := by
    intro h i j
    rw [shiftV_eq, hl, maskV_eq l hl]
    unfold base
    obtain ⟨f, hf⟩ := hm i j
    by_cases hji : j.val ≤ i.val
    · rw [if_pos hji, if_pos hji, zero_sub, sub_eq_add_neg]
    · rw [if_neg hji, if_neg hji, hf, EReal.add_bot]; rfl
  have hT : ∀ p, shiftV l (maskV l) p ≠ ⊤ := by
    intro p
    have hp : p = ix4 0 (p 1) (p 2) (p 3) := (eq_ix4 p).trans (congrArg (fun z => ix4 z (p 1) (p 2) (p 3)) (Subsingleton.elim (α := Fin 1) _ _))
    rw [hp]
    have q := hA (p 1) (p 2) (p 3)
    refine fun e => ?_
    have e' := q.symm.trans e
    unfold base at e'
    obtain ⟨x, hx⟩ := hr (p 1) (p 2) (p 3)
    obtain ⟨f, hf⟩ := hm (p 2) (p 3)
    rw [hx, hf] at e'
    split at e'
    · exact (isReal_iff.1 ((IsReal.coe x).add (IsReal.zero.sub (IsReal.coe f)))).2 e'
    · rw [EReal.add_bot] at e'; exact bot_ne_top e'
  have hD : ∀ (h : Fin 16) (i : Fin 2048), shiftV l (maskV l) (ix4 0 h i i) ≠ ⊥ := by
    intro h i
    rw [hA]
    unfold base
    rw [if_pos le_rfl]
    exact (isReal_iff.1 ((hr h i i).add (IsReal.zero.sub (hm i i)))).1
  rw [attnV_eq]
  simp only [weightsV_eq, expV_eq, hv]
  have hc : 64 * (c.val / 64) + c.val % 64 = c.val := Nat.div_add_mod _ _
  have key := softmax_shift (fun k : Fin 2048 => shiftV l (maskV l) (ix4 0 ⟨c.val / 64, by omega⟩ i k))
    (fun k => V k (64 * (c.val / 64) + c.val % 64)) _ (fun k => hT _) i (hD _ i) (topmostV_real _ hT ⟨c.val / 64, by omega⟩ i i (hD _ i))
  refine key.trans ?_
  unfold attn weight
  simp only [hA, hc]

/-! ## The two results -/

section

variable (m : (ℓ : Loc nD τ sig) → Buf (Elt Ideal) ℓ) (c : Dev nD) {X Wq Wk Wv Wo : ℕ → ℕ → EReal} {gq bq gk bk : ℕ → EReal}
  (hX : ∀ (i : Fin 2048) (j : Fin 1024), (m ((c.tc : Thread nD τ).loc main_arg0) : FVec Ideal S1x2048x1024 .f32) (ix3 0 i j) = X i j)
  (hWq : ∀ i j : Fin 1024, (m ((c.tc : Thread nD τ).loc main_arg1) : FVec Ideal S1024x1024 .f32) (ix2 i j) = Wq i j)
  (hWk : ∀ i j : Fin 1024, (m ((c.tc : Thread nD τ).loc main_arg2) : FVec Ideal S1024x1024 .f32) (ix2 i j) = Wk i j)
  (hWv : ∀ i j : Fin 1024, (m ((c.tc : Thread nD τ).loc main_arg3) : FVec Ideal S1024x1024 .f32) (ix2 i j) = Wv i j)
  (hWo : ∀ i j : Fin 1024, (m ((c.tc : Thread nD τ).loc main_arg4) : FVec Ideal S1024x1024 .f32) (ix2 i j) = Wo i j)
  (hgq : ∀ j : Fin 1024, (m ((c.tc : Thread nD τ).loc main_arg5) : FVec Ideal S1024 .f32) (ix1 j) = gq j)
  (hbq : ∀ j : Fin 1024, (m ((c.tc : Thread nD τ).loc main_arg6) : FVec Ideal S1024 .f32) (ix1 j) = bq j)
  (hgk : ∀ j : Fin 1024, (m ((c.tc : Thread nD τ).loc main_arg7) : FVec Ideal S1024 .f32) (ix1 j) = gk j)
  (hbk : ∀ j : Fin 1024, (m ((c.tc : Thread nD τ).loc main_arg8) : FVec Ideal S1024 .f32) (ix1 j) = bk j)

include hX hWq hWk hgq hbq hgk hbk

theorem refLogits_eq (h : Fin 16) (i j : Fin 2048) :
    refLogits m c (ix4 0 h i j) = if j.val ≤ i.val then logit (normed X Wq gq bq) (normed X Wk gk bk) (64 * h) i j else ⊥ :=
  logitV_eq _ _ (headsV_eq _ (normV_eq _ _ _ (projV_eq _ _ hX hWq) hgq hbq)) (headsV_eq _ (normV_eq _ _ _ (projV_eq _ _ hX hWk) hgk hbk)) h i j

theorem res_mask (i j : Fin 2048) :
    (Value.res_main_v87 (F := Ideal) m c : FVec Ideal S1x2048x2048 .f32) (ix3 0 i j) = mask (normed X Wq gq bq) (normed X Wk gk bk) i j := by
  rw [mask_eq]
  exact maskV_eq _ (refLogits_eq m c hX hWq hWk hgq hbq hgk hbk) i j

include hWv hWo

theorem res_out (rgq : ∀ j : Fin 1024, IsReal (gq j)) (rbq : ∀ j : Fin 1024, IsReal (bq j)) (rgk : ∀ j : Fin 1024, IsReal (gk j))
    (rbk : ∀ j : Fin 1024, IsReal (bk j)) (i : Fin 2048) (j : Fin 1024) :
    (Value.res_main_v109 (F := Ideal) m c : FVec Ideal S1x2048x1024 .f32) (ix3 0 i j)
      = out (normed X Wq gq bq) (normed X Wk gk bk) (proj X Wv) Wo i j := by
  have real : ∀ (W : ℕ → ℕ → EReal) (g b : ℕ → EReal), (∀ j : Fin 1024, IsReal (g j)) → (∀ j : Fin 1024, IsReal (b j)) →
      ∀ (h : Fin 16) (i : ℕ) (d : Fin 64), IsReal (normed X W g b i (64 * h + d)) := fun W g b hg hb h i d =>
    lnorm_real _ g b ⟨64 * h + d, by omega⟩ (hg _) (hb _)
  rw [out_eq]
  exact projV_eq _ _ (softmaxV_eq _ _ (refLogits_eq m c hX hWq hWk hgq hbq hgk hbk) (headsV_eq _ (projV_eq _ _ hX hWv))
    fun h i j => logit_real (real Wq gq bq rgq rbq h i) (real Wk gk bk rgk rbk h j)) hWo i j

end

end Cert.ReferenceIdeal.Hand
-- ==== Proof.Agree.lean ====
/- The kernel's results and the reference's are the same: both are the sums of `Math` over the same ten arrays. -/
module

public import proofs.«01_k».proof.Defs
public import proofs.«01_k».proof.Proof.Gen.ReferenceIdeal.Run
public import proofs.«01_k».proof.Proof.IdealLaunch
public import proofs.«01_k».proof.Proof.RefValue
public import Idealize.ShloMosaic.Lib.Affine
public import Idealize.ShloMosaic.Lib.Claim
public import Idealize.ShloMosaic.Lib.Pointwise

@[expose] public section

noncomputable section

namespace Cert.Agree

open Cert.Attn Cert.KernelIdeal.Hand
open Idealize.ShloMosaic Idealize.ShloMosaic.TcCoe Idealize.SL.Sem

/-! ## The precondition -/

/-- An extended real whose absolute value is below the top is a real number. -/
theorem isReal_of_abs_lt {x : EReal} (h : max x (-x) < ⊤) : IsReal x := by
  induction x with
  | bot => simp at h
  | coe r => exact ⟨r, rfl⟩
  | top => simp at h

/-- The same from the bit of the comparison. -/
theorem isReal_of_bit {x : EReal} (h : BitVec.ofBool (decide (FloatOps.absf (F := Ideal) (φ := .f32) x < (⊤ : EReal))) = 1#1) : IsReal x :=
  isReal_of_abs_lt (by by_contra hn; have e := decide_eq_false hn; exact absurd ((congrArg BitVec.ofBool e).symm.trans h) (by decide))

/-- The shape relation the precondition's operations take. -/
theorem facts : Cert.Pre_finite_norms.Facts := ⟨by decide⟩

attribute [local instance] facts Cert.KernelIdeal.Gen.facts Cert.ReferenceIdeal.Gen.facts

section
variable (m : (ℓ : Loc Cert.KernelIdeal.nD Cert.KernelIdeal.τ Cert.KernelIdeal.sig) → Buf (Elt Ideal) ℓ) (c : Dev Cert.KernelIdeal.nD)

/-- What the precondition says: the entries of the four norm vectors are real numbers. -/
theorem norms_real (h : Cert.Pre_KernelIdeal_finite_norms m) (j : Fin 1024) :
    IsReal (vec (m ((c.tc : Thread Cert.KernelIdeal.nD Cert.KernelIdeal.τ).loc Cert.KernelIdeal.main_arg5)) j) ∧ IsReal (vec (m ((c.tc : Thread Cert.KernelIdeal.nD Cert.KernelIdeal.τ).loc Cert.KernelIdeal.main_arg6)) j)
    ∧ IsReal (vec (m ((c.tc : Thread Cert.KernelIdeal.nD Cert.KernelIdeal.τ).loc Cert.KernelIdeal.main_arg7)) j) ∧ IsReal (vec (m ((c.tc : Thread Cert.KernelIdeal.nD Cert.KernelIdeal.τ).loc Cert.KernelIdeal.main_arg8)) j) := by
  have e := congrFun (h c) (ix1 j)
  rw [vec_apply, vec_apply, vec_apply, vec_apply]
  pointwise [Cert.Pre_finite_norms.fn] at e
  have top : Ideal.ofBits .f32 0x7F800000#32 = ⊤ := by simp [Ideal.ofBits, Ideal.ieee]
  rw [top] at e
  obtain ⟨e, h8⟩ := IntOp.andi_eq_one.1 e
  obtain ⟨e, h7⟩ := IntOp.andi_eq_one.1 e
  obtain ⟨h5, h6⟩ := IntOp.andi_eq_one.1 e
  exact ⟨isReal_of_bit h5, isReal_of_bit h6, isReal_of_bit h7, isReal_of_bit h8⟩

/-! ## The two runs -/

variable (m' : (ℓ : Loc Cert.ReferenceIdeal.nD Cert.ReferenceIdeal.τ Cert.ReferenceIdeal.sig) → Buf (Elt Ideal) ℓ)

/-- The arrays of the two programs agree on a device. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

/-- The second result: the reference's is the kernel's, on any arrays. -/
theorem same_mask (h : Same m c m') : Cert.ReferenceIdeal.Value.res_main_v87 (F := Ideal) m' c = res1 m c := by
  obtain ⟨h0, h1, h2, -, -, h5, h6, h7, h8, -⟩ := h
  funext y
  obtain ⟨i, j, rfl⟩ := exists_ix3 y
  exact Cert.ReferenceIdeal.Hand.res_mask m' c
    (hX := fun i j => (congrFun h0 _).trans (X_apply m c i j).symm)
    (hWq := fun i j => (congrFun h1 _).trans (mat_apply _ i j).symm)
    (hWk := fun i j => (congrFun h2 _).trans (mat_apply _ i j).symm)
    (hgq := fun j => (congrFun h5 _).trans (vec_apply _ j).symm)
    (hbq := fun j => (congrFun h6 _).trans (vec_apply _ j).symm)
    (hgk := fun j => (congrFun h7 _).trans (vec_apply _ j).symm)
    (hbk := fun j => (congrFun h8 _).trans (vec_apply _ j).symm) i j

/-- The first result: the reference's is the kernel's where the norm vectors are real. -/
theorem same_out (hp : Cert.Pre_KernelIdeal_finite_norms m) (h : Same m c m') :
    Cert.ReferenceIdeal.Value.res_main_v109 (F := Ideal) m' c = res0 m c := by
  obtain ⟨h0, h1, h2, h3, h4, h5, h6, h7, h8, -⟩ := h
  funext y
  obtain ⟨i, j, rfl⟩ := exists_ix3 y
  exact Cert.ReferenceIdeal.Hand.res_out m' c
    (hX := fun i j => (congrFun h0 _).trans (X_apply m c i j).symm)
    (hWq := fun i j => (congrFun h1 _).trans (mat_apply _ i j).symm)
    (hWk := fun i j => (congrFun h2 _).trans (mat_apply _ i j).symm)
    (hWv := fun i j => (congrFun h3 _).trans (mat_apply _ i j).symm)
    (hWo := fun i j => (congrFun h4 _).trans (mat_apply _ i j).symm)
    (hgq := fun j => (congrFun h5 _).trans (vec_apply _ j).symm)
    (hbq := fun j => (congrFun h6 _).trans (vec_apply _ j).symm)
    (hgk := fun j => (congrFun h7 _).trans (vec_apply _ j).symm)
    (hbk := fun j => (congrFun h8 _).trans (vec_apply _ j).symm)
    (rgq := fun j => (norms_real m c hp j).1) (rbq := fun j => (norms_real m c hp j).2.1)
    (rgk := fun j => (norms_real m c hp j).2.2.1) (rbk := fun j => (norms_real m c hp j).2.2.2) i j

end

/-- Both programs run, and their results are equal. -/
theorem algebraic : Cert.algebraic_KernelIdeal_ReferenceIdeal_pre_finite_norms := fun m ρ m' ρ' hp hs =>
  ⟨res0 m, res1 m,
    (θ_run Cert.KernelIdeal.defs _ _).mono (fun _ h c => ⟨(h.1 c).1, (h.1 c).2, h.2.1 c⟩) (θ_run_and (results m ρ) (frame m ρ)),
    (θ_run Cert.ReferenceIdeal.defs _ _).mono (fun _ h c => ⟨(h c).1.trans (same_out m c m' hp (hs c)), (h c).2.1.trans (same_mask m c m' (hs c)), (h c).2.2⟩)
      (Cert.ReferenceIdeal.Value.run (F := Ideal) m' ρ')⟩

end Cert.Agree

end
-- ==== Proof.lean ====
module

public import proofs.«01_k».proof.Defs
public import proofs.«01_k».proof.Proof.KernelLaunch
public import proofs.«01_k».proof.Proof.IdealLaunch
public import proofs.«01_k».proof.Proof.Agree
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Hand.frame m ρ

theorem frame_ideal : Cert.quiescent_KernelIdeal := fun m ρ _ => Cert.KernelIdeal.Hand.frame m ρ

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem preserves : Cert.preserves_Kernel_KernelIdeal := IdealRules.named_const.statement _ _ _ _ _ rfl

attribute [local instance] Cert.Agree.facts

/-- The two frames beside the value claim: its precondition is not used. -/
theorem frame_ideal_norms : Cert.quiescent_KernelIdeal_pre_finite_norms := fun m ρ _ => frame_ideal m ρ trivial

theorem frame_reference_norms : Cert.quiescent_ReferenceIdeal_pre_finite_norms := fun m ρ _ => frame_reference m ρ trivial

theorem claim : Cert.Claim := ⟨Cert.Kernel.Gen.facts, Cert.KernelIdeal.Gen.facts, Cert.ReferenceIdeal.Gen.facts, Cert.Agree.facts,
  frame_kernel, frame_ideal, frame_ideal_norms, frame_reference, frame_reference_norms, preserves, Cert.Agree.algebraic⟩

end Cert.Proof

end
